-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_cut_has_a_float32 [hPre_cut_has_a_float32 : Cert.Pre_cut_has_a_float32.Facts] (m : (ℓ : Loc Cert.KernelIdeal.nD Cert.KernelIdeal.τ Cert.KernelIdeal.sig) → Buf (Elt Ideal) ℓ) : Prop :=
  ∀ c : Dev Cert.KernelIdeal.nD,
    (Cert.Pre_cut_has_a_float32.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_cut_has_a_float32 [hPre_cut_has_a_float32 : Cert.Pre_cut_has_a_float32.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_cut_has_a_float32.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_cut_has_a_float32 [hKernelIdeal : Cert.KernelIdeal.Facts] [hPre_cut_has_a_float32 : Cert.Pre_cut_has_a_float32.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_cut_has_a_float32 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_cut_has_a_float32 [hReferenceIdeal : Cert.ReferenceIdeal.Facts] [hPre_cut_has_a_float32 : Cert.Pre_cut_has_a_float32.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_cut_has_a_float32 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_cut_has_a_float32 [hKernelIdeal : Cert.KernelIdeal.Facts] [hReferenceIdeal : Cert.ReferenceIdeal.Facts] [hPre_cut_has_a_float32 : Cert.Pre_cut_has_a_float32.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_cut_has_a_float32 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_cut_has_a_float32 : Cert.Pre_cut_has_a_float32.Facts),
    quiescent_Kernel (hKernel := hKernel)
    ∧ quiescent_KernelIdeal (hKernelIdeal := hKernelIdeal)
    ∧ quiescent_KernelIdeal_pre_cut_has_a_float32 (hKernelIdeal := hKernelIdeal) (hPre_cut_has_a_float32 := hPre_cut_has_a_float32)
    ∧ quiescent_ReferenceIdeal (hReferenceIdeal := hReferenceIdeal)
    ∧ quiescent_ReferenceIdeal_pre_cut_has_a_float32 (hReferenceIdeal := hReferenceIdeal) (hPre_cut_has_a_float32 := hPre_cut_has_a_float32)
    ∧ preserves_Kernel_KernelIdeal
    ∧ algebraic_KernelIdeal_ReferenceIdeal_pre_cut_has_a_float32 (hKernelIdeal := hKernelIdeal) (hReferenceIdeal := hReferenceIdeal) (hPre_cut_has_a_float32 := hPre_cut_has_a_float32)
-- ==== Pre_cut_has_a_float32.lean ====
abbrev S4096x1024 : Shape := ⟨2, ![4096, 1024]⟩
abbrev S1024x512 : Shape := ⟨2, ![1024, 512]⟩
abbrev S512 : Shape := ⟨1, ![512]⟩
abbrev S512x4096 : Shape := ⟨2, ![512, 4096]⟩
abbrev S4096 : Shape := ⟨1, ![4096]⟩
abbrev S5120x512 : Shape := ⟨2, ![5120, 512]⟩
abbrev S512x512 : Shape := ⟨2, ![512, 512]⟩
abbrev S512x1 : Shape := ⟨2, ![512, 1]⟩
abbrev S1 : Shape := ⟨1, ![1]⟩
abbrev S4096x512 : Shape := ⟨2, ![4096, 512]⟩
abbrev S1x512 : Shape := ⟨2, ![1, 512]⟩
abbrev S_ : Shape := ⟨0, ![]⟩
abbrev S4096x4096 : Shape := ⟨2, ![4096, 4096]⟩
abbrev S1x4096 : Shape := ⟨2, ![1, 4096]⟩
abbrev S4096x5120 : Shape := ⟨2, ![4096, 5120]⟩
abbrev S4096x1 : Shape := ⟨2, ![4096, 1]⟩
abbrev S1x1 : Shape := ⟨2, ![1, 1]⟩
abbrev S4096x4096x1 : Shape := ⟨3, ![4096, 4096, 1]⟩
abbrev S1x1x1 : Shape := ⟨3, ![1, 1, 1]⟩
abbrev S254 : Shape := ⟨1, ![254]⟩
abbrev S1x254 : Shape := ⟨2, ![1, 254]⟩
abbrev S4096x254 : Shape := ⟨2, ![4096, 254]⟩

class Facts : Prop where
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  concatenates_S4096x1024_S4096x4096_S4096x5120_d1 : Shape.Concatenates [S4096x1024, S4096x4096] S4096x5120 1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  bcast_S_S4096x1 : S_.BroadcastsInDim S4096x1 (![] : Fin 0 → Fin S4096x1.rank)
  bcast_S_S1 : S_.BroadcastsInDim S1 (![] : Fin 0 → Fin S1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  shapeCasts_S4096x4096_S4096x4096x1 : S4096x4096.ShapeCasts S4096x4096x1
  bcast_S_S4096x4096x1 : S_.BroadcastsInDim S4096x4096x1 (![] : Fin 0 → Fin S4096x4096x1.rank)
  bcast_S1_S1x1x1_2 : S1.BroadcastsInDim S1x1x1 (![2] : Fin 1 → Fin S1x1x1.rank)
  bcast_S1x1x1_S4096x4096x1_0_1_2 : S1x1x1.BroadcastsInDim S4096x4096x1 (![0, 1, 2] : Fin 3 → Fin S4096x4096x1.rank)
  reducesTo_S4096x4096x1_S4096x4096_d2 : S4096x4096x1.ReducesTo [2] S4096x4096
  h_S_ : 0 < S_.numel
  reducesTo_S4096x4096_S4096_d1 : S4096x4096.ReducesTo [1] S4096
  bcast_S4096_S4096x1_0 : S4096.BroadcastsInDim S4096x1 (![0] : Fin 1 → Fin S4096x1.rank)
  bcast_S_S254 : S_.BroadcastsInDim S254 (![] : Fin 0 → Fin S254.rank)
  bcast_S254_S1x254_1 : S254.BroadcastsInDim S1x254 (![1] : Fin 1 → Fin S1x254.rank)
  bcast_S4096x1_S4096x254_0_1 : S4096x1.BroadcastsInDim S4096x254 (![0, 1] : Fin 2 → Fin S4096x254.rank)
  bcast_S1x254_S4096x254_0_1 : S1x254.BroadcastsInDim S4096x254 (![0, 1] : Fin 2 → Fin S4096x254.rank)
  bcast_S_S4096x254 : S_.BroadcastsInDim S4096x254 (![] : Fin 0 → Fin S4096x254.rank)
  reducesTo_S4096x254_S4096_d1 : S4096x254.ReducesTo [1] S4096
  dot_S4096x1024_S1024x512_S4096x512_1_0_0_1_n_n_wf : DotDims.WF S4096x1024 S1024x512 S4096x512 [1] [0] [0] [1] [] []
  dot_S4096x512_S512x4096_S4096x4096_1_0_0_1_n_n_wf : DotDims.WF S4096x512 S512x4096 S4096x4096 [1] [0] [0] [1] [] []
  dot_S4096x5120_S5120x512_S4096x512_1_0_0_1_n_n_wf : DotDims.WF S4096x5120 S5120x512 S4096x512 [1] [0] [0] [1] [] []
  dot_S4096x512_S512x512_S4096x512_1_0_0_1_n_n_wf : DotDims.WF S4096x512 S512x512 S4096x512 [1] [0] [0] [1] [] []
  dot_S4096x512_S512x1_S4096x1_1_0_0_1_n_n_wf : DotDims.WF S4096x512 S512x1 S4096x1 [1] [0] [0] [1] [] []
  gather_S4096x4096_S4096x4096x1_S4096x4096_n_1_0_0_1_2_11_wf : GatherDims.WF S4096x4096 S4096x4096x1 S4096x4096 [] [1] [0] [1] [0] 2 ![1, 1]

variable [Facts]

variable {F : FTy → Type} [FloatOps F]
def dot_S4096x1024_S1024x512_S4096x512_1_0_0_1_n_n : DotDims S4096x1024 S1024x512 S4096x512 where
  lhsContracting := [1]
  rhsContracting := [0]
  lhsNonContracting := [0]
  rhsNonContracting := [1]
  lhsBatch := []
  rhsBatch := []
  wf := dot_S4096x1024_S1024x512_S4096x512_1_0_0_1_n_n_wf
def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def dot_S4096x5120_S5120x512_S4096x512_1_0_0_1_n_n : DotDims S4096x5120 S5120x512 S4096x512 where
  lhsContracting := [1]
  rhsContracting := [0]
  lhsNonContracting := [0]
  rhsNonContracting := [1]
  lhsBatch := []
  rhsBatch := []
  wf := dot_S4096x5120_S5120x512_S4096x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x512_S512x1_S4096x1_1_0_0_1_n_n : DotDims S4096x512 S512x1 S4096x1 where
  lhsContracting := [1]
  rhsContracting := [0]
  lhsNonContracting := [0]
  rhsNonContracting := [1]
  lhsBatch := []
  rhsBatch := []
  wf := dot_S4096x512_S512x1_S4096x1_1_0_0_1_n_n_wf
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def comparator_i32_i32_d1 : BitVec 32 × BitVec 32 → BitVec 32 × BitVec 32 → BitVec 1 :=
  fun l r =>
    let v2 := IntOp.cmpi .slt l.1 r.1
    v2
def gather_S4096x4096_S4096x4096x1_S4096x4096_n_1_0_0_1_2_11 : GatherDims S4096x4096 S4096x4096x1 S4096x4096 where
  offsetDims := []
  collapsedSliceDims := [1]
  operandBatchingDims := [0]
  startIndicesBatchingDims := [0]
  startIndexMap := [1]
  indexVectorDim := 2
  sliceSizes := ![1, 1]
  wf := gather_S4096x4096_S4096x4096x1_S4096x4096_n_1_0_0_1_2_11_wf

def fn_relu {F : FTy → Type} [FloatOps F] (arg0 : FVec F S4096x512 .f32) : FVec F S4096x512 .f32 :=
  let cst : FVec F S_ .f32 := constant S_ .f32 0x00000000#32
  let v0 : FVec F S4096x512 .f32 := broadcastInDim S4096x512 ![] bcast_S_S4096x512 cst
  let v1 : FVec F S4096x512 .f32 := maximumf arg0 v0
  v1

def fn_clip {F : FTy → Type} [FloatOps F] (arg0 : FVec F S4096x1 .f32) (arg1 : FVec F S_ .f32) (arg2 : FVec F S_ .f32) : FVec F S4096x1 .f32 :=
  let v0 : FVec F S_ .f32 := id arg1
  let v1 : FVec F S4096x1 .f32 := broadcastInDim S4096x1 ![] bcast_S_S4096x1 v0
  let v2 : FVec F S4096x1 .f32 := maximumf v1 arg0
  let v3 : FVec F S_ .f32 := id arg2
  let v4 : FVec F S4096x1 .f32 := broadcastInDim S4096x1 ![] bcast_S_S4096x1 v3
  let v5 : FVec F S4096x1 .f32 := minimumf v4 v2
  v5

def fn_argsort {F : FTy → Type} [FloatOps F] (arg0 : FVec F S4096x4096 .f32) : IVec S4096x4096 32 :=
  let v0 : IVec S4096x4096 32 := iotaInDim S4096x4096 32 1
  let v1_0 : FVec F S4096x4096 .f32 := (fun x y => (Host.sort2 S4096x4096 1 comparator_f32_i32_d1 x y).1) arg0 v0
  let v1_1 : IVec S4096x4096 32 := (fun x y => (Host.sort2 S4096x4096 1 comparator_f32_i32_d1 x y).2) arg0 v0
  v1_1

def fn_argsort_0 {F : FTy → Type} [FloatOps F] (arg0 : IVec S4096x4096 32) : IVec S4096x4096 32 :=
  let v0 : IVec S4096x4096 32 := iotaInDim S4096x4096 32 1
  let v1_0 : IVec S4096x4096 32 := (fun x y => (Host.sort2 S4096x4096 1 comparator_i32_i32_d1 x y).1) arg0 v0
  let v1_1 : IVec S4096x4096 32 := (fun x y => (Host.sort2 S4096x4096 1 comparator_i32_i32_d1 x y).2) arg0 v0
  v1_1

def fn_take_along_axis {F : FTy → Type} [FloatOps F] (arg0 : FVec F S4096x4096 .f32) (arg1 : IVec S4096x4096 32) : FVec F S4096x4096 .f32 :=
  let c : IVec S_ 32 := constantI S_ 32 0#32
  let v0 : IVec S4096x4096 32 := broadcastInDim S4096x4096 ![] bcast_S_S4096x4096 c
  let v1 : IVec S4096x4096 1 := cmpi .slt arg1 v0
  let c_0 : IVec S_ 32 := constantI S_ 32 4096#32
  let v2 : IVec S4096x4096 32 := broadcastInDim S4096x4096 ![] bcast_S_S4096x4096 c_0
  let v3 : IVec S4096x4096 32 := addi arg1 v2
  let v4 : IVec S4096x4096 32 := select v1 v3 arg1
  let v5 : IVec S4096x4096x1 32 := shapeCast S4096x4096x1 v4 shapeCasts_S4096x4096_S4096x4096x1
  let c_1 : IVec S1 32 := constantI S1 32 4095#32
  let c_2 : IVec S_ 32 := constantI S_ 32 0#32
  let v6 : IVec S4096x4096x1 32 := broadcastInDim S4096x4096x1 ![] bcast_S_S4096x4096x1 c_2
  let v7 : IVec S4096x4096x1 1 := cmpi .sge v5 v6
  let v8 : IVec S1x1x1 32 := broadcastInDim S1x1x1 ![2] bcast_S1_S1x1x1_2 c_1
  let v9 : IVec S4096x4096x1 32 := broadcastInDim S4096x4096x1 ![0, 1, 2] bcast_S1x1x1_S4096x4096x1_0_1_2 v8
  let v10 : IVec S4096x4096x1 1 := cmpi .sle v5 v9
  let v11 : IVec S4096x4096x1 1 := andi v7 v10
  let c_3 : IVec S_ 1 := constantI S_ 1 1#1
  let v12 : IVec S4096x4096 1 := (fun x v => Host.reduce IntOp.andi x v reducesTo_S4096x4096x1_S4096x4096_d2 h_S_) v11 c_3
  let v13 : FVec F S4096x4096 .f32 := (fun x i => Host.gather gather_S4096x4096_S4096x4096x1_S4096x4096_n_1_0_0_1_2_11 x i) arg0 v5
  let cst : FVec F S_ .f32 := constant S_ .f32 0x7FC00000#32
  let v14 : FVec F S4096x4096 .f32 := broadcastInDim S4096x4096 ![] bcast_S_S4096x4096 cst
  let v15 : FVec F S4096x4096 .f32 := select v12 v13 v14
  v15

def fn_where {F : FTy → Type} [FloatOps F] (arg0 : IVec S4096x4096 1) (arg1 : FVec F S4096x4096 .f32) (arg2 : FVec F S_ .f32) : FVec F S4096x4096 .f32 :=
  let v0 : FVec F S_ .f32 := id arg2
  let v1 : FVec F S4096x4096 .f32 := broadcastInDim S4096x4096 ![] bcast_S_S4096x4096 v0
  let v2 : FVec F S4096x4096 .f32 := select arg0 arg1 v1
  v2

def fn_where_1 {F : FTy → Type} [FloatOps F] (arg0 : IVec S4096x4096 1) (arg1 : FVec F S_ .f32) (arg2 : FVec F S4096x4096 .f32) : FVec F S4096x4096 .f32 :=
  let v0 : FVec F S_ .f32 := id arg1
  let v1 : FVec F S4096x4096 .f32 := broadcastInDim S4096x4096 ![] bcast_S_S4096x4096 v0
  let v2 : FVec F S4096x4096 .f32 := select arg0 v1 arg2
  v2

def fn_where_2 {F : FTy → Type} [FloatOps F] (arg0 : IVec S254 1) (arg1 : IVec S254 32) (arg2 : IVec S254 32) : IVec S254 32 :=
  let v0 : IVec S254 32 := select arg0 arg1 arg2
  v0

def fn_part5 {F : FTy → Type} [FloatOps F] (main_v69 : FVec F S4096x1 .f32) (main_v92 : FVec F S4096x254 .f32) (main_v95 : IVec S4096x254 1) (main_v97 : IVec S4096x254 1) (main_v98 : FVec F S4096x254 .f32) : IVec S4096 1 :=
  let main_v99 : IVec S4096x254 1 := cmpf .oeq main_v92 main_v98
  let main_v100 : IVec S4096x254 1 := ori main_v97 main_v99
  let main_v101 : IVec S4096x254 1 := andi main_v95 main_v100
  let main_v102 : FVec F S4096x1 .f32 := Host.absf main_v69
  let main_cst_19 : FVec F S_ .f32 := constant S_ .f32 0x7F800000#32
  let main_v103 : FVec F S4096x1 .f32 := broadcastInDim S4096x1 ![] bcast_S_S4096x1 main_cst_19
  let main_v104 : IVec S4096x1 1 := cmpf .oeq main_v102 main_v103
  let main_v105 : IVec S4096x254 1 := broadcastInDim S4096x254 ![0, 1] bcast_S4096x1_S4096x254_0_1 main_v104
  let main_v106 : IVec S4096x254 1 := ori main_v101 main_v105
  let main_c_20 : IVec S_ 1 := constantI S_ 1 0#1
  let main_v107 : IVec S4096 1 := (fun x v => Host.reduce IntOp.ori x v reducesTo_S4096x254_S4096_d1 h_S_) main_v106 main_c_20
  main_v107

def fn_part4 {F : FTy → Type} [FloatOps F] (main_v69 : FVec F S4096x1 .f32) (main_v74 : FVec F S4096x1 .f32) (main_v75 : IVec S254 32) (main_v77 : IVec S254 1) (main_c_15 : IVec S_ 32) : IVec S4096 1 :=
  let main_v78 : IVec S254 32 := broadcastInDim S254 ![] bcast_S_S254 main_c_15
  let main_v79 : IVec S254 32 := Host.shli main_v78 main_v75
  let main_c_16 : IVec S_ 32 := constantI S_ 32 22#32
  let main_v80 : IVec S254 32 := broadcastInDim S254 ![] bcast_S_S254 main_c_16
  let main_v81 : IVec S254 32 := subi main_v75 main_v80
  let main_c_17 : IVec S_ 32 := constantI S_ 32 8388608#32
  let main_v82 : IVec S254 32 := broadcastInDim S254 ![] bcast_S_S254 main_c_17
  let main_v83 : IVec S254 32 := muli main_v81 main_v82
  let main_v84 : IVec S254 32 := fn_where_2 (F := F) main_v77 main_v79 main_v83
  let main_v85 : FVec F S254 .f32 := bitcastToFloat .f32 main_v84
  let main_v86 : FVec F S1x254 .f32 := broadcastInDim S1x254 ![1] bcast_S254_S1x254_1 main_v85
  let main_v87 : FVec F S4096x254 .f32 := broadcastInDim S4096x254 ![0, 1] bcast_S4096x1_S4096x254_0_1 main_v69
  let main_v88 : FVec F S4096x254 .f32 := broadcastInDim S4096x254 ![0, 1] bcast_S1x254_S4096x254_0_1 main_v86
  let main_v89 : FVec F S4096x254 .f32 := Host.divf main_v87 main_v88
  let main_v90 : FVec F S4096x254 .f32 := Host.floor main_v89
  let main_v91 : FVec F S4096x254 .f32 := broadcastInDim S4096x254 ![0, 1] bcast_S1x254_S4096x254_0_1 main_v86
  let main_v92 : FVec F S4096x254 .f32 := mulf main_v90 main_v91
  let main_v93 : FVec F S4096x254 .f32 := Host.absf main_v90
  let main_cst_18 : FVec F S_ .f32 := constant S_ .f32 0x4B800000#32
  let main_v94 : FVec F S4096x254 .f32 := broadcastInDim S4096x254 ![] bcast_S_S4096x254 main_cst_18
  let main_v95 : IVec S4096x254 1 := cmpf .olt main_v93 main_v94
  let main_v96 : FVec F S4096x254 .f32 := broadcastInDim S4096x254 ![0, 1] bcast_S4096x1_S4096x254_0_1 main_v74
  let main_v97 : IVec S4096x254 1 := cmpf .olt main_v96 main_v92
  let main_v98 : FVec F S4096x254 .f32 := broadcastInDim S4096x254 ![0, 1] bcast_S4096x1_S4096x254_0_1 main_v69
  fn_part5 (F := F) main_v69 main_v92 main_v95 main_v97 main_v98

def fn_part3 {F : FTy → Type} [FloatOps F] (main_v8 : FVec F S4096x4096 .f32) (main_v56 : IVec S4096x4096 32) (main_v60 : FVec F S4096x4096 .f32) (main_v61 : FVec F S4096x4096 .f32) : IVec S4096 1 :=
  let main_v62 : IVec S4096x4096 1 := cmpf .olt main_v60 main_v61
  let main_v63 : FVec F S4096x4096 .f32 := uitofp .f32 main_v62
  let main_v64 : FVec F S4096x4096 .f32 := fn_take_along_axis (F := F) main_v63 main_v56
  let main_cst_9 : FVec F S_ .f32 := constant S_ .f32 0x3F000000#32
  let main_v65 : FVec F S4096x4096 .f32 := broadcastInDim S4096x4096 ![] bcast_S_S4096x4096 main_cst_9
  let main_v66 : IVec S4096x4096 1 := cmpf .ogt main_v64 main_v65
  let main_cst_10 : FVec F S_ .f32 := constant S_ .f32 0x7F800000#32
  let main_v67 : FVec F S4096x4096 .f32 := fn_where (F := F) main_v66 main_v8 main_cst_10
  let main_cst_11 : FVec F S_ .f32 := constant S_ .f32 0x7F800000#32
  let main_v68 : FVec F S4096 .f32 := (fun x v => Host.reduce FloatOps.minimumf x v reducesTo_S4096x4096_S4096_d1 h_S_) main_v67 main_cst_11
  let main_v69 : FVec F S4096x1 .f32 := broadcastInDim S4096x1 ![0] bcast_S4096_S4096x1_0 main_v68
  let main_cst_12 : FVec F S_ .f32 := constant S_ .f32 0x3F000000#32
  let main_v70 : FVec F S4096x4096 .f32 := broadcastInDim S4096x4096 ![] bcast_S_S4096x4096 main_cst_12
  let main_v71 : IVec S4096x4096 1 := cmpf .ogt main_v64 main_v70
  let main_cst_13 : FVec F S_ .f32 := constant S_ .f32 0xFF800000#32
  let main_v72 : FVec F S4096x4096 .f32 := fn_where_1 (F := F) main_v71 main_cst_13 main_v8
  let main_cst_14 : FVec F S_ .f32 := constant S_ .f32 0xFF800000#32
  let main_v73 : FVec F S4096 .f32 := (fun x v => Host.reduce FloatOps.maximumf x v reducesTo_S4096x4096_S4096_d1 h_S_) main_v72 main_cst_14
  let main_v74 : FVec F S4096x1 .f32 := broadcastInDim S4096x1 ![0] bcast_S4096_S4096x1_0 main_v73
  let main_v75 : IVec S254 32 := iotaInDim S254 32 0
  let main_c : IVec S_ 32 := constantI S_ 32 23#32
  let main_v76 : IVec S254 32 := broadcastInDim S254 ![] bcast_S_S254 main_c
  let main_v77 : IVec S254 1 := cmpi .slt main_v75 main_v76
  let main_c_15 : IVec S_ 32 := constantI S_ 32 1#32
  fn_part4 (F := F) main_v69 main_v74 main_v75 main_v77 main_c_15

def fn_part2 {F : FTy → Type} [FloatOps F] (main_v8 : FVec F S4096x4096 .f32) (main_v17 : FVec F S4096x4096 .f32) (main_v40 : FVec F S4096x1 .f32) (main_v42 : FVec F S1 .f32) (main_v43 : FVec F S1 .f32) : IVec S4096 1 :=
  let main_v44 : FVec F S1 .f32 := addf main_v43 main_v42
  let main_cst_3 : FVec F S_ .f32 := constant S_ .f32 0x3F800000#32
  let main_v45 : FVec F S1 .f32 := broadcastInDim S1 ![] bcast_S_S1 main_cst_3
  let main_v46 : FVec F S1 .f32 := Host.divf main_v45 main_v44
  let main_v47 : FVec F S1x1 .f32 := broadcastInDim S1x1 ![1] bcast_S1_S1x1_1 main_v46
  let main_v48 : FVec F S4096x1 .f32 := broadcastInDim S4096x1 ![0, 1] bcast_S1x1_S4096x1_0_1 main_v47
  let main_v49 : FVec F S4096x1 .f32 := mulf main_v40 main_v48
  let main_cst_4 : FVec F S_ .f32 := constant S_ .f32 0x40000000#32
  let main_v50 : FVec F S4096x1 .f32 := broadcastInDim S4096x1 ![] bcast_S_S4096x1 main_cst_4
  let main_v51 : FVec F S4096x1 .f32 := mulf main_v49 main_v50
  let main_cst_5 : FVec F S_ .f32 := constant S_ .f32 0x3F800000#32
  let main_cst_6 : FVec F S_ .f32 := constant S_ .f32 0x45800000#32
  let main_v52 : FVec F S4096x1 .f32 := fn_clip (F := F) main_v51 main_cst_5 main_cst_6
  let main_cst_7 : FVec F S_ .f32 := constant S_ .f32 0x3F800000#32
  let main_cst_8 : FVec F S_ .f32 := constant S_ .f32 0x45800000#32
  let main_v53 : FVec F S4096x1 .f32 := fn_clip (F := F) main_v52 main_cst_7 main_cst_8
  let main_v54 : FVec F S4096x4096 .f32 := Host.negf main_v17
  let main_v55 : IVec S4096x4096 32 := fn_argsort (F := F) main_v54
  let main_v56 : IVec S4096x4096 32 := fn_argsort_0 (F := F) main_v55
  let main_v57 : IVec S4096 32 := iotaInDim S4096 32 0
  let main_v58 : IVec S1x4096 32 := broadcastInDim S1x4096 ![1] bcast_S4096_S1x4096_1 main_v57
  let main_v59 : FVec F S1x4096 .f32 := sitofp .f32 main_v58
  let main_v60 : FVec F S4096x4096 .f32 := broadcastInDim S4096x4096 ![0, 1] bcast_S1x4096_S4096x4096_0_1 main_v59
  let main_v61 : FVec F S4096x4096 .f32 := broadcastInDim S4096x4096 ![0, 1] bcast_S4096x1_S4096x4096_0_1 main_v53
  fn_part3 (F := F) main_v8 main_v56 main_v60 main_v61

def fn_part1 {F : FTy → Type} [FloatOps F] (main_arg7 : FVec F S512x512 .f32) (main_arg8 : FVec F S512 .f32) (main_arg9 : FVec F S512x1 .f32) (main_arg10 : FVec F S1 .f32) (main_arg11 : FVec F S1 .f32) (main_v8 : FVec F S4096x4096 .f32) (main_v17 : FVec F S4096x4096 .f32) (main_v23 : FVec F S4096x512 .f32) : IVec S4096 1 :=
  let main_v24 : FVec F S4096x512 .f32 := (fun l r => Host.dotGeneral dot_S4096x512_S512x512_S4096x512_1_0_0_1_n_n none l r) main_v23 main_arg7
  let main_v25 : FVec F S1x512 .f32 := broadcastInDim S1x512 ![1] bcast_S512_S1x512_1 main_arg8
  let main_v26 : FVec F S4096x512 .f32 := broadcastInDim S4096x512 ![0, 1] bcast_S1x512_S4096x512_0_1 main_v25
  let main_v27 : FVec F S4096x512 .f32 := addf main_v24 main_v26
  let main_v28 : FVec F S4096x512 .f32 := fn_relu (F := F) main_v27
  let main_v29 : FVec F S4096x1 .f32 := (fun l r => Host.dotGeneral dot_S4096x512_S512x1_S4096x1_1_0_0_1_n_n none l r) main_v28 main_arg9
  let main_v30 : FVec F S1x1 .f32 := broadcastInDim S1x1 ![1] bcast_S1_S1x1_1 main_arg10
  let main_v31 : FVec F S4096x1 .f32 := broadcastInDim S4096x1 ![0, 1] bcast_S1x1_S4096x1_0_1 main_v30
  let main_v32 : FVec F S4096x1 .f32 := addf main_v29 main_v31
  let main_v33 : FVec F S4096x1 .f32 := Host.negf main_v32
  let main_v34 : FVec F S4096x1 .f32 := Host.exp main_v33
  let main_cst : FVec F S_ .f32 := constant S_ .f32 0x3F800000#32
  let main_v35 : FVec F S4096x1 .f32 := broadcastInDim S4096x1 ![] bcast_S_S4096x1 main_cst
  let main_v36 : FVec F S4096x1 .f32 := addf main_v35 main_v34
  let main_cst_0 : FVec F S_ .f32 := constant S_ .f32 0x3F800000#32
  let main_v37 : FVec F S4096x1 .f32 := broadcastInDim S4096x1 ![] bcast_S_S4096x1 main_cst_0
  let main_v38 : FVec F S4096x1 .f32 := Host.divf main_v37 main_v36
  let main_cst_1 : FVec F S_ .f32 := constant S_ .f32 0x45800000#32
  let main_v39 : FVec F S4096x1 .f32 := broadcastInDim S4096x1 ![] bcast_S_S4096x1 main_cst_1
  let main_v40 : FVec F S4096x1 .f32 := mulf main_v38 main_v39
  let main_v41 : FVec F S1 .f32 := Host.negf main_arg11
  let main_v42 : FVec F S1 .f32 := Host.exp main_v41
  let main_cst_2 : FVec F S_ .f32 := constant S_ .f32 0x3F800000#32
  let main_v43 : FVec F S1 .f32 := broadcastInDim S1 ![] bcast_S_S1 main_cst_2
  fn_part2 (F := F) main_v8 main_v17 main_v40 main_v42 main_v43

def fn {F : FTy → Type} [FloatOps F] (main_arg0 : FVec F S4096x1024 .f32) (main_arg1 : FVec F S1024x512 .f32) (main_arg2 : FVec F S512 .f32) (main_arg3 : FVec F S512x4096 .f32) (main_arg4 : FVec F S4096 .f32) (main_arg5 : FVec F S5120x512 .f32) (main_arg6 : FVec F S512 .f32) (main_arg7 : FVec F S512x512 .f32) (main_arg8 : FVec F S512 .f32) (main_arg9 : FVec F S512x1 .f32) (main_arg10 : FVec F S1 .f32) (main_arg11 : FVec F S1 .f32) : IVec S4096 1 :=
  let main_v0 : FVec F S4096x512 .f32 := (fun l r => Host.dotGeneral dot_S4096x1024_S1024x512_S4096x512_1_0_0_1_n_n none l r) main_arg0 main_arg1
  let main_v1 : FVec F S1x512 .f32 := broadcastInDim S1x512 ![1] bcast_S512_S1x512_1 main_arg2
  let main_v2 : FVec F S4096x512 .f32 := broadcastInDim S4096x512 ![0, 1] bcast_S1x512_S4096x512_0_1 main_v1
  let main_v3 : FVec F S4096x512 .f32 := addf main_v0 main_v2
  let main_v4 : FVec F S4096x512 .f32 := fn_relu (F := F) main_v3
  let main_v5 : FVec F S4096x4096 .f32 := (fun l r => Host.dotGeneral dot_S4096x512_S512x4096_S4096x4096_1_0_0_1_n_n none l r) main_v4 main_arg3
  let main_v6 : FVec F S1x4096 .f32 := broadcastInDim S1x4096 ![1] bcast_S4096_S1x4096_1 main_arg4
  let main_v7 : FVec F S4096x4096 .f32 := broadcastInDim S4096x4096 ![0, 1] bcast_S1x4096_S4096x4096_0_1 main_v6
  let main_v8 : FVec F S4096x4096 .f32 := addf main_v5 main_v7
  let main_v9 : FVec F S4096x512 .f32 := (fun l r => Host.dotGeneral dot_S4096x1024_S1024x512_S4096x512_1_0_0_1_n_n none l r) main_arg0 main_arg1
  let main_v10 : FVec F S1x512 .f32 := broadcastInDim S1x512 ![1] bcast_S512_S1x512_1 main_arg2
  let main_v11 : FVec F S4096x512 .f32 := broadcastInDim S4096x512 ![0, 1] bcast_S1x512_S4096x512_0_1 main_v10
  let main_v12 : FVec F S4096x512 .f32 := addf main_v9 main_v11
  let main_v13 : FVec F S4096x512 .f32 := fn_relu (F := F) main_v12
  let main_v14 : FVec F S4096x4096 .f32 := (fun l r => Host.dotGeneral dot_S4096x512_S512x4096_S4096x4096_1_0_0_1_n_n none l r) main_v13 main_arg3
  let main_v15 : FVec F S1x4096 .f32 := broadcastInDim S1x4096 ![1] bcast_S4096_S1x4096_1 main_arg4
  let main_v16 : FVec F S4096x4096 .f32 := broadcastInDim S4096x4096 ![0, 1] bcast_S1x4096_S4096x4096_0_1 main_v15
  let main_v17 : FVec F S4096x4096 .f32 := addf main_v14 main_v16
  let main_v18 : FVec F S4096x5120 .f32 := (fun a b => concatenate S4096x5120 1 [⟨S4096x1024, a⟩, ⟨S4096x4096, b⟩] concatenates_S4096x1024_S4096x4096_S4096x5120_d1) main_arg0 main_v17
  let main_v19 : FVec F S4096x512 .f32 := (fun l r => Host.dotGeneral dot_S4096x5120_S5120x512_S4096x512_1_0_0_1_n_n none l r) main_v18 main_arg5
  let main_v20 : FVec F S1x512 .f32 := broadcastInDim S1x512 ![1] bcast_S512_S1x512_1 main_arg6
  let main_v21 : FVec F S4096x512 .f32 := broadcastInDim S4096x512 ![0, 1] bcast_S1x512_S4096x512_0_1 main_v20
  let main_v22 : FVec F S4096x512 .f32 := addf main_v19 main_v21
  let main_v23 : FVec F S4096x512 .f32 := fn_relu (F := F) main_v22
  fn_part1 (F := F) main_arg7 main_arg8 main_arg9 main_arg10 main_arg11 main_v8 main_v17 main_v23
-- ==== Kernel.lean ====
abbrev S4096x1024 : Shape := ⟨2, ![4096, 1024]⟩
abbrev S1024x512 : Shape := ⟨2, ![1024, 512]⟩
abbrev S512 : Shape := ⟨1, ![512]⟩
abbrev S512x4096 : Shape := ⟨2, ![512, 4096]⟩
abbrev S4096 : Shape := ⟨1, ![4096]⟩
abbrev S5120x512 : Shape := ⟨2, ![5120, 512]⟩
abbrev S512x512 : Shape := ⟨2, ![512, 512]⟩
abbrev S512x1 : Shape := ⟨2, ![512, 1]⟩
abbrev S1 : Shape := ⟨1, ![1]⟩
abbrev S4096x512 : Shape := ⟨2, ![4096, 512]⟩
abbrev S1x512 : Shape := ⟨2, ![1, 512]⟩
abbrev S1x4096 : Shape := ⟨2, ![1, 4096]⟩
abbrev S1x1 : Shape := ⟨2, ![1, 1]⟩
abbrev S4096x4096 : Shape := ⟨2, ![4096, 4096]⟩
abbrev S4096x1 : Shape := ⟨2, ![4096, 1]⟩
abbrev S256x1024 : Shape := ⟨2, ![256, 1024]⟩
abbrev S256x4096 : Shape := ⟨2, ![256, 4096]⟩
abbrev S256x1 : Shape := ⟨2, ![256, 1]⟩
abbrev S256x512 : Shape := ⟨2, ![256, 512]⟩
abbrev S256 : Shape := ⟨1, ![256]⟩
abbrev S1x256x1 : Shape := ⟨3, ![1, 256, 1]⟩
abbrev S1x1x1 : Shape := ⟨3, ![1, 1, 1]⟩

abbrev nBuf : Space → Nat
  | .hbm => 23
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1024x512, .f32⟩
  | .hbm, ⟨2, _⟩ => ⟨S512, .f32⟩
  | .hbm, ⟨3, _⟩ => ⟨S512x4096, .f32⟩
  | .hbm, ⟨4, _⟩ => ⟨S4096, .f32⟩
  | .hbm, ⟨5, _⟩ => ⟨S5120x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x1, .f32⟩
  | .hbm, ⟨10, _⟩ => ⟨S1, .f32⟩
  | .hbm, ⟨11, _⟩ => ⟨S1, .f32⟩
  | .hbm, ⟨12, _⟩ => ⟨S1024x512, .f32⟩
  | .hbm, ⟨13, _⟩ => ⟨S4096x512, .f32⟩
  | .hbm, ⟨14, _⟩ => ⟨S1x512, .f32⟩
  | .hbm, ⟨15, _⟩ => ⟨S1x4096, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S1x1, .f32⟩
  | .hbm, ⟨20, _⟩ => ⟨S1x1, .f32⟩
  | .hbm, ⟨21, _⟩ => ⟨S4096x4096, .f32⟩
  | .hbm, ⟨22, _⟩ => ⟨S4096x1, .f32⟩
  | .local _ .vmem, ⟨0, _⟩ => ⟨S256x1024, .f32⟩
  | .local _ .vmem, ⟨1, _⟩ => ⟨S256x1024, .f32⟩
  | .local _ .vmem, ⟨2, _⟩ => ⟨S1024x512, .f32⟩
  | .local _ .vmem, ⟨3, _⟩ => ⟨S1x512, .f32⟩
  | .local _ .vmem, ⟨4, _⟩ => ⟨S512x4096, .f32⟩
  | .local _ .vmem, ⟨5, _⟩ => ⟨S1x4096, .f32⟩
  | .local _ .vmem, ⟨6, _⟩ => ⟨S1024x512, .f32⟩
  | .local _ .vmem, ⟨7, _⟩ => ⟨S4096x512, .f32⟩
  | .local _ .vmem, ⟨8, _⟩ => ⟨S1x512, .f32⟩
  | .local _ .vmem, ⟨9, _⟩ => ⟨S512x512, .f32⟩
  | .local _ .vmem, ⟨10, _⟩ => ⟨S1x512, .f32⟩
  | .local _ .vmem, ⟨11, _⟩ => ⟨S1x512, .f32⟩
  | .local _ .vmem, ⟨12, _⟩ => ⟨S1x1, .f32⟩
  | .local _ .vmem, ⟨13, _⟩ => ⟨S1x1, .f32⟩
  | .local _ .vmem, ⟨14, _⟩ => ⟨S256x4096, .f32⟩
  | .local _ .vmem, ⟨15, _⟩ => ⟨S256x4096, .f32⟩
  | .local _ .vmem, ⟨16, _⟩ => ⟨S256x1, .f32⟩
  | .local _ .vmem, ⟨17, _⟩ => ⟨S256x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_v0_0 : Ref sig .tc := ⟨.hbm, 21, rfl⟩
abbrev main_v0_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c32_i32 : BitVec 32 := 32#32
  let v69 : BitVec 32 := Scalar.addi c0_i32 c32_i32
  let c1_i32 : BitVec 32 := 1#32
  ⟨c0_i32, v69, c1_i32⟩
@[reducible] def k0_t2_loop : Scf.Loop 32 :=
  let c0_i32_51 : BitVec 32 := 0#32
  let c12_i32 : BitVec 32 := 12#32
  let v110 : BitVec 32 := Scalar.addi c0_i32_51 c12_i32
  let c1_i32_52 : BitVec 32 := 1#32
  ⟨c0_i32_51, v110, c1_i32_52⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x4096 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S4096x1024 : Shape := ⟨2, ![4096, 1024]⟩
abbrev S1024x512 : Shape := ⟨2, ![1024, 512]⟩
abbrev S512 : Shape := ⟨1, ![512]⟩
abbrev S512x4096 : Shape := ⟨2, ![512, 4096]⟩
abbrev S4096 : Shape := ⟨1, ![4096]⟩
abbrev S5120x512 : Shape := ⟨2, ![5120, 512]⟩
abbrev S512x512 : Shape := ⟨2, ![512, 512]⟩
abbrev S512x1 : Shape := ⟨2, ![512, 1]⟩
abbrev S1 : Shape := ⟨1, ![1]⟩
abbrev S4096x512 : Shape := ⟨2, ![4096, 512]⟩
abbrev S1x512 : Shape := ⟨2, ![1, 512]⟩
abbrev S_ : Shape := ⟨0, ![]⟩
abbrev S4096x4096 : Shape := ⟨2, ![4096, 4096]⟩
abbrev S1x4096 : Shape := ⟨2, ![1, 4096]⟩
abbrev S4096x5120 : Shape := ⟨2, ![4096, 5120]⟩
abbrev S4096x1 : Shape := ⟨2, ![4096, 1]⟩
abbrev S1x1 : Shape := ⟨2, ![1, 1]⟩
abbrev S4096x4096x1 : Shape := ⟨3, ![4096, 4096, 1]⟩
abbrev S1x1x1 : Shape := ⟨3, ![1, 1, 1]⟩

abbrev nBuf : Space → Nat
  | .hbm => 119
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x512, .f32⟩
  | .hbm, ⟨2, _⟩ => ⟨S512, .f32⟩
  | .hbm, ⟨3, _⟩ => ⟨S512x4096, .f32⟩
  | .hbm, ⟨4, _⟩ => ⟨S4096, .f32⟩
  | .hbm, ⟨5, _⟩ => ⟨S5120x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x1, .f32⟩
  | .hbm, ⟨10, _⟩ => ⟨S1, .f32⟩
  | .hbm, ⟨11, _⟩ => ⟨S1, .f32⟩
  | .hbm, ⟨12, _⟩ => ⟨S4096x512, .f32⟩
  | .hbm, ⟨13, _⟩ => ⟨S1x512, .f32⟩
  | .hbm, ⟨14, _⟩ => ⟨S4096x512, .f32⟩
  | .hbm, ⟨15, _⟩ => ⟨S4096x512, .f32⟩
  | .hbm, ⟨16, _⟩ => ⟨S_, .f32⟩
  | .hbm, ⟨17, _⟩ => ⟨S4096x512, .f32⟩
  | .hbm, ⟨18, _⟩ => ⟨S4096x512, .f32⟩
  | .hbm, ⟨19, _⟩ => ⟨S4096x4096, .f32⟩
  | .hbm, ⟨20, _⟩ => ⟨S1x4096, .f32⟩
  | .hbm, ⟨21, _⟩ => ⟨S4096x4096, .f32⟩
  | .hbm, ⟨22, _⟩ => ⟨S4096x4096, .f32⟩
  | .hbm, ⟨23, _⟩ => ⟨S4096x5120, .f32⟩
  | .hbm, ⟨24, _⟩ => ⟨S4096x512, .f32⟩
  | .hbm, ⟨25, _⟩ => ⟨S1x512, .f32⟩
  | .hbm, ⟨26, _⟩ => ⟨S4096x512, .f32⟩
  | .hbm, ⟨27, _⟩ => ⟨S4096x512, .f32⟩
  | .hbm, ⟨28, _⟩ => ⟨S_, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S1x512, .f32⟩
  | .hbm, ⟨33, _⟩ => ⟨S4096x512, .f32⟩
  | .hbm, ⟨34, _⟩ => ⟨S4096x512, .f32⟩
  | .hbm, ⟨35, _⟩ => ⟨S_, .f32⟩
  | .hbm, ⟨36, _⟩ => ⟨S4096x512, .f32⟩
  | .hbm, ⟨37, _⟩ => ⟨S4096x512, .f32⟩
  | .hbm, ⟨38, _⟩ => ⟨S4096x1, .f32⟩
  | .hbm, ⟨39, _⟩ => ⟨S1x1, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S1, .f32⟩
  | .hbm, ⟨54, _⟩ => ⟨S1, .f32⟩
  | .hbm, ⟨55, _⟩ => ⟨S_, .f32⟩
  | .hbm, ⟨56, _⟩ => ⟨S1, .f32⟩
  | .hbm, ⟨57, _⟩ => ⟨S1, .f32⟩
  | .hbm, ⟨58, _⟩ => ⟨S_, .f32⟩
  | .hbm, ⟨59, _⟩ => ⟨S1, .f32⟩
  | .hbm, ⟨60, _⟩ => ⟨S1, .f32⟩
  | .hbm, ⟨61, _⟩ => ⟨S1x1, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096x1, .f32⟩
  | .hbm, ⟨82, _⟩ => ⟨S4096x1, .f32⟩
  | .hbm, ⟨83, _⟩ => ⟨S4096x4096, .f32⟩
  | .hbm, ⟨84, _⟩ => ⟨S4096x4096, .i32⟩
  | .hbm, ⟨85, _⟩ => ⟨S4096x4096, .f32⟩
  | .hbm, ⟨86, _⟩ => ⟨S4096x4096, .i32⟩
  | .hbm, ⟨87, _⟩ => ⟨S4096x4096, .i32⟩
  | .hbm, ⟨88, _⟩ => ⟨S4096x4096, .i32⟩
  | .hbm, ⟨89, _⟩ => ⟨S4096x4096, .i32⟩
  | .hbm, ⟨90, _⟩ => ⟨S4096, .i32⟩
  | .hbm, ⟨91, _⟩ => ⟨S1x4096, .i32⟩
  | .hbm, ⟨92, _⟩ => ⟨S1x4096, .f32⟩
  | .hbm, ⟨93, _⟩ => ⟨S4096x4096, .f32⟩
  | .hbm, ⟨94, _⟩ => ⟨S4096x4096, .f32⟩
  | .hbm, ⟨95, _⟩ => ⟨S4096x4096, .i1⟩
  | .hbm, ⟨96, _⟩ => ⟨S4096x4096, .f32⟩
  | .hbm, ⟨97, _⟩ => ⟨S_, .i32⟩
  | .hbm, ⟨98, _⟩ => ⟨S4096x4096, .i32⟩
  | .hbm, ⟨99, _⟩ => ⟨S4096x4096, .i1⟩
  | .hbm, ⟨100, _⟩ => ⟨S_, .i32⟩
  | .hbm, ⟨101, _⟩ => ⟨S4096x4096, .i32⟩
  | .hbm, ⟨102, _⟩ => ⟨S4096x4096, .i32⟩
  | .hbm, ⟨103, _⟩ => ⟨S4096x4096, .i32⟩
  | .hbm, ⟨104, _⟩ => ⟨S4096x4096x1, .i32⟩
  | .hbm, ⟨105, _⟩ => ⟨S1, .i32⟩
  | .hbm, ⟨106, _⟩ => ⟨S_, .i32⟩
  | .hbm, ⟨107, _⟩ => ⟨S4096x4096x1, .i32⟩
  | .hbm, ⟨108, _⟩ => ⟨S4096x4096x1, .i1⟩
  | .hbm, ⟨109, _⟩ => ⟨S1x1x1, .i32⟩
  | .hbm, ⟨110, _⟩ => ⟨S4096x4096x1, .i32⟩
  | .hbm, ⟨111, _⟩ => ⟨S4096x4096x1, .i1⟩
  | .hbm, ⟨112, _⟩ => ⟨S4096x4096x1, .i1⟩
  | .hbm, ⟨113, _⟩ => ⟨S_, .i1⟩
  | .hbm, ⟨114, _⟩ => ⟨S4096x4096, .i1⟩
  | .hbm, ⟨115, _⟩ => ⟨S4096x4096, .f32⟩
  | .hbm, ⟨116, _⟩ => ⟨S_, .f32⟩
  | .hbm, ⟨117, _⟩ => ⟨S4096x4096, .f32⟩
  | .hbm, ⟨118, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call1_cst : Ref sig .tc := ⟨.hbm, 28, rfl⟩
abbrev main_call1_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call2_cst : Ref sig .tc := ⟨.hbm, 35, rfl⟩
abbrev main_call2_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst : Ref sig .tc := ⟨.hbm, 44, rfl⟩
abbrev main_v26 : Ref sig .tc := ⟨.hbm, 45, rfl⟩
abbrev main_v27 : Ref sig .tc := ⟨.hbm, 46, rfl⟩
abbrev main_cst_0 : Ref sig .tc := ⟨.hbm, 47, rfl⟩
abbrev main_v28 : Ref sig .tc := ⟨.hbm, 48, rfl⟩
abbrev main_v29 : Ref sig .tc := ⟨.hbm, 49, rfl⟩
abbrev main_cst_1 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_2 : Ref sig .tc := ⟨.hbm, 55, rfl⟩
abbrev main_v34 : Ref sig .tc := ⟨.hbm, 56, rfl⟩
abbrev main_v35 : Ref sig .tc := ⟨.hbm, 57, rfl⟩
abbrev main_cst_3 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_4 : Ref sig .tc := ⟨.hbm, 64, rfl⟩
abbrev main_v41 : Ref sig .tc := ⟨.hbm, 65, rfl⟩
abbrev main_v42 : Ref sig .tc := ⟨.hbm, 66, rfl⟩
abbrev main_cst_5 : Ref sig .tc := ⟨.hbm, 67, rfl⟩
abbrev main_cst_6 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_v43 : Ref sig .tc := ⟨.hbm, 74, rfl⟩
abbrev main_cst_7 : Ref sig .tc := ⟨.hbm, 75, rfl⟩
abbrev main_cst_8 : Ref sig .tc := ⟨.hbm, 76, rfl⟩
abbrev main_call4_v0 : Ref sig .tc := ⟨.hbm, 77, rfl⟩
abbrev main_call4_v1 : Ref sig .tc := ⟨.hbm, 78, rfl⟩
abbrev main_call4_v2 : Ref sig .tc := ⟨.hbm, 79, rfl⟩
abbrev main_call4_v3 : Ref sig .tc := ⟨.hbm, 80, rfl⟩
abbrev main_call4_v4 : Ref sig .tc := ⟨.hbm, 81, rfl⟩
abbrev main_v44 : Ref sig .tc := ⟨.hbm, 82, rfl⟩
abbrev main_v45 : Ref sig .tc := ⟨.hbm, 83, rfl⟩
abbrev main_call5_v0 : Ref sig .tc := ⟨.hbm, 84, rfl⟩
abbrev main_call5_v1_0 : Ref sig .tc := ⟨.hbm, 85, rfl⟩
abbrev main_v46 : Ref sig .tc := ⟨.hbm, 86, rfl⟩
abbrev main_call6_v0 : Ref sig .tc := ⟨.hbm, 87, rfl⟩
abbrev main_call6_v1_0 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_call7_c : Ref sig .tc := ⟨.hbm, 97, rfl⟩
abbrev main_call7_v0 : Ref sig .tc := ⟨.hbm, 98, rfl⟩
abbrev main_call7_v1 : Ref sig .tc := ⟨.hbm, 99, rfl⟩
abbrev main_call7_c_0 : Ref sig .tc := ⟨.hbm, 100, rfl⟩
abbrev main_call7_v2 : Ref sig .tc := ⟨.hbm, 101, rfl⟩
abbrev main_call7_v3 : Ref sig .tc := ⟨.hbm, 102, rfl⟩
abbrev main_call7_v4 : Ref sig .tc := ⟨.hbm, 103, rfl⟩
abbrev main_call7_v5 : Ref sig .tc := ⟨.hbm, 104, rfl⟩
abbrev main_call7_c_1 : Ref sig .tc := ⟨.hbm, 105, rfl⟩
abbrev main_call7_c_2 : Ref sig .tc := ⟨.hbm, 106, rfl⟩
abbrev main_call7_v6 : Ref sig .tc := ⟨.hbm, 107, rfl⟩
abbrev main_call7_v7 : Ref sig .tc := ⟨.hbm, 108, rfl⟩
abbrev main_call7_v8 : Ref sig .tc := ⟨.hbm, 109, rfl⟩
abbrev main_call7_v9 : Ref sig .tc := ⟨.hbm, 110, rfl⟩
abbrev main_call7_v10 : Ref sig .tc := ⟨.hbm, 111, rfl⟩
abbrev main_call7_v11 : Ref sig .tc := ⟨.hbm, 112, rfl⟩
abbrev main_call7_c_3 : Ref sig .tc := ⟨.hbm, 113, rfl⟩
abbrev main_call7_v12 : Ref sig .tc := ⟨.hbm, 114, rfl⟩
abbrev main_call7_v13 : Ref sig .tc := ⟨.hbm, 115, rfl⟩
abbrev main_call7_cst : Ref sig .tc := ⟨.hbm, 116, rfl⟩
abbrev main_call7_v14 : Ref sig .tc := ⟨.hbm, 117, rfl⟩
abbrev main_v55 : Ref sig .tc := ⟨.hbm, 118, rfl⟩

abbrev nD : Nat := 1
abbrev τ : Topo := Topo.v7x

variable {F : FTy → Type} [FloatOps F]
-- ==== Proof.PreFacts.lean ====
/-
  The side conditions that the printed precondition states, proved.
-/
module

public import proofs.«01_k».proof.Pre_cut_has_a_float32
public import Idealize.ShloMosaic.Lib.Affine
public import Idealize.ShloMosaic.Lib.Decide
public import Idealize.ShloMosaic.Lib.Exec

@[expose] public section

namespace Cert.PreFacts

open Idealize.ShloMosaic

/-- Every shape condition of the precondition holds. -/
instance facts : Cert.Pre_cut_has_a_float32.Facts := by
  constructor <;> decide

end Cert.PreFacts

end
-- ==== Proof.KernelIdealBody.lean ====
/-
  What one block of `KernelIdeal` computes, for any float values: the two results' block contents as functions of the
  thirteen staged inputs, and the run of the body that leaves them there.

  The body has two counted loops, both free of memory operations, so each is the fold of its step: the search for
  the cut key (32 halvings) and the search for the last tied column (12 halvings, run only where ties have to be
  broken).
-/
module

public import proofs.«01_k».proof.Proof.Gen.KernelIdeal.Skeleton
public import proofs.«01_k».proof.Proof.Gen.KernelIdeal.Frame
public import Idealize.ShloMosaic.Lib.Pipeline.ValueKit.Basic
public import Idealize.ShloMosaic.Lib.Exec

@[expose] public section

set_option maxRecDepth 16384

noncomputable section

namespace Cert.KernelIdealProof

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The values of a block -/

/-- One halving of the key interval: the new lower and upper keys. -/
def keyStep (v14 : FVec F S256x4096 .f32) (v29 : FVec F S256x512 .f32) (v31 : FVec F S1x512 .f32) (v38 : Vec F S1x512 .f32)
    (v46 : Vec F S1x1 .f32) (v53 : Vec F S1x1 .f32) : Fin k0_t1_loop.trips → IVec S256x1 32 × IVec S256x1 32 → IVec S256x1 32 × IVec S256x1 32 :=
  fun _ a => (k0_pay23 v14 v29 v31 v38 v46 v53 a.1 a.2, k0_pay24 v14 v29 v31 v38 v46 v53 a.1 a.2)

/-- The key interval after the loop. -/
def keys (v14 : FVec F S256x4096 .f32) (v29 : FVec F S256x512 .f32) (v31 : FVec F S1x512 .f32) (v38 : Vec F S1x512 .f32)
    (v46 : Vec F S1x1 .f32) (v53 : Vec F S1x1 .f32) : IVec S256x1 32 × IVec S256x1 32 :=
  Scf.fold (keyStep v14 v29 v31 v38 v46 v53) (k0_pay19, k0_pay20)

/-- One halving of the column interval of the tie search. -/
def tieStep (v14 : FVec F S256x4096 .f32) (v65 : FVec F S256x1 .f32) (v66 : FVec F S4096x1 .f32) (v70 : IVec S256x1 32) :
    Fin k0_t2_loop.trips → IVec S256x1 32 × IVec S256x1 32 → IVec S256x1 32 × IVec S256x1 32 :=
  fun _ a => (k0_pay10 v14 v65 v66 v70 a.1 a.2, k0_pay11 v14 v65 v66 v70 a.1 a.2)

/-- The condition bit of the branch: no row of the block has a tie to break. -/
def noTies (v14 : FVec F S256x4096 .f32) (v65 : FVec F S256x1 .f32) (v66 : FVec F S4096x1 .f32) (v70 : IVec S256x1 32) : BitVec 1 :=
  Scalar.cmpi .ne (Scalar.extui (Scalar.cmpf .ogt (k0_pay6 v14 v65 v66 v70) (Scalar.ofBits .f32 0x00000000#32)) : BitVec 32) 0#32

/-- The last column whose ties are kept, per row: the last column of all where the block has no tie to break, and
    what the tie search finds otherwise. -/
def lastTie (v14 : FVec F S256x4096 .f32) (v65 : FVec F S256x1 .f32) (v66 : FVec F S4096x1 .f32) (v70 : IVec S256x1 32) : IVec S256x1 32 :=
  if noTies v14 v65 v66 v70 = 1#1 then k0_pay5 else (Scf.fold (tieStep v14 v65 v66 v70) (k0_pay7, k0_pay5)).1

/-- The block of `k` values. -/
def kBlk (x0 : Vec F S256x1024 .f32) (x1 : Vec F S1024x512 .f32) (x2 : Vec F S1x512 .f32) (x3 : Vec F S512x4096 .f32) (x4 : Vec F S1x4096 .f32) (x5 : Vec F S1024x512 .f32) (x6 : Vec F S4096x512 .f32) (x7 : Vec F S1x512 .f32) (x8 : Vec F S512x512 .f32) (x9 : Vec F S1x512 .f32) (x10 : Vec F S1x512 .f32) (x11 : Vec F S1x1 .f32) (x12 : Vec F S1x1 .f32) : Vec F S256x1 .f32 :=
  k0_pay16 (k0_pay14 x0 x1 x2 x3 x4 x5 x6 x7 x8) (k0_pay15 x9) x10 x11 x12

/-- The k-hot block, from the block's logits and the operands of the `k` head. -/
def khotOf (v14 : FVec F S256x4096 .f32) (v29 : FVec F S256x512 .f32) (v31 : FVec F S1x512 .f32) (v38 : Vec F S1x512 .f32)
    (v46 : Vec F S1x1 .f32) (v53 : Vec F S1x1 .f32) : Vec F S256x4096 .f32 :=
  k0_pay12 v14 (keys v14 v29 v31 v38 v46 v53).1
    (lastTie v14 (k0_pay17 v29 v31 v38 v46 v53) k0_pay18 (keys v14 v29 v31 v38 v46 v53).1)

/-- The k-hot block. -/
def khotBlk (x0 : Vec F S256x1024 .f32) (x1 : Vec F S1024x512 .f32) (x2 : Vec F S1x512 .f32) (x3 : Vec F S512x4096 .f32) (x4 : Vec F S1x4096 .f32) (x5 : Vec F S1024x512 .f32) (x6 : Vec F S4096x512 .f32) (x7 : Vec F S1x512 .f32) (x8 : Vec F S512x512 .f32) (x9 : Vec F S1x512 .f32) (x10 : Vec F S1x512 .f32) (x11 : Vec F S1x1 .f32) (x12 : Vec F S1x1 .f32) : Vec F S256x4096 .f32 :=
  khotOf (k0_pay13 x0 x1 x2 x3 x4) (k0_pay14 x0 x1 x2 x3 x4 x5 x6 x7 x8) (k0_pay15 x9) x10 x11 x12

/-! ## The loops as their folds -/

/-- The key search issues nothing: it returns its fold. -/
theorem keyLoop_eq (i : grid0.Coords) (arg1 : Memref sig .tc .vmem S256x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x4096 .f32) (harg4 : arg4.IsWhole) (arg5 : Memref sig .tc .vmem S1x4096 .f32) (harg5 : arg5.IsWhole) (arg6 : Memref sig .tc .vmem S1024x512 .f32) (harg6 : arg6.IsWhole) (arg7 : Memref sig .tc .vmem S4096x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S256x4096 .f32) (harg14 : arg14.IsWhole) (arg15 : Memref sig .tc .vmem S256x1 .f32) (harg15 : arg15.IsWhole) (v14 : FVec F S256x4096 .f32) (v29 : FVec F S256x512 .f32) (v31 : FVec F S1x512 .f32) (v38 : Vec F S1x512 .f32)
    (v46 : Vec F S1x1 .f32) (v53 : Vec F S1x1 .f32) :
    Scf.Loop.for k0_t1_loop k0_t1_ok (k0_pay19, k0_pay20) (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v14 v29 v31 v38 v46 v53)
      = (pure (keys v14 v29 v31 v38 v46 v53) : Prog (TpuEff nD τ sig (Elt F) Λ₀ .tc) (IVec S256x1 32 × IVec S256x1 32)) :=
  Scf.for_pure _ _ _ _ _ _ (keyStep v14 v29 v31 v38 v46 v53) (fun _ _ => rfl)

/-- So does the tie search. -/
theorem tieLoop_eq (i : grid0.Coords) (arg1 : Memref sig .tc .vmem S256x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x4096 .f32) (harg4 : arg4.IsWhole) (arg5 : Memref sig .tc .vmem S1x4096 .f32) (harg5 : arg5.IsWhole) (arg6 : Memref sig .tc .vmem S1024x512 .f32) (harg6 : arg6.IsWhole) (arg7 : Memref sig .tc .vmem S4096x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S256x4096 .f32) (harg14 : arg14.IsWhole) (arg15 : Memref sig .tc .vmem S256x1 .f32) (harg15 : arg15.IsWhole) (v14 : FVec F S256x4096 .f32) (v65 : FVec F S256x1 .f32) (v66 : FVec F S4096x1 .f32) (v70 : IVec S256x1 32) :
    Scf.Loop.for k0_t2_loop k0_t2_ok (k0_pay7, k0_pay5) (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v14 v65 v66 v70)
      = (pure (Scf.fold (tieStep v14 v65 v66 v70) (k0_pay7, k0_pay5)) : Prog (TpuEff nD τ sig (Elt F) Λ₀ .tc) (IVec S256x1 32 × IVec S256x1 32)) :=
  Scf.for_pure _ _ _ _ _ _ (tieStep v14 v65 v66 v70) (fun _ _ => rfl)

/-! ## The body's run -/

/-- Loads through the whole staging buffers read the blocks: the `k` block, -/
theorem kBlk_ld (x0 : Vec F S256x1024 .f32) (x1 : Vec F S1024x512 .f32) (x2 : Vec F S1x512 .f32) (x3 : Vec F S512x4096 .f32) (x4 : Vec F S1x4096 .f32) (x5 : Vec F S1024x512 .f32) (x6 : Vec F S4096x512 .f32) (x7 : Vec F S1x512 .f32) (x8 : Vec F S512x512 .f32) (x9 : Vec F S1x512 .f32) (x10 : Vec F S1x512 .f32) (x11 : Vec F S1x1 .f32) (x12 : Vec F S1x1 .f32) :
    kBlk (View.ld x0 (Rect.unit (s := S256x1024) ![0, 0] S256x1024.size inb_S256x1024_S256x1024_0_0)) (View.ld x1 (Rect.unit (s := S1024x512) ![0, 0] S1024x512.size inb_S1024x512_S1024x512_0_0)) (View.ld x2 (Rect.unit (s := S1x512) ![0, 0] S1x512.size inb_S1x512_S1x512_0_0)) (View.ld x3 (Rect.unit (s := S512x4096) ![0, 0] S512x4096.size inb_S512x4096_S512x4096_0_0)) (View.ld x4 (Rect.unit (s := S1x4096) ![0, 0] S1x4096.size inb_S1x4096_S1x4096_0_0)) (View.ld x5 (Rect.unit (s := S1024x512) ![0, 0] S1024x512.size inb_S1024x512_S1024x512_0_0)) (View.ld x6 (Rect.unit (s := S4096x512) ![0, 0] S4096x512.size inb_S4096x512_S4096x512_0_0)) (View.ld x7 (Rect.unit (s := S1x512) ![0, 0] S1x512.size inb_S1x512_S1x512_0_0)) (View.ld x8 (Rect.unit (s := S512x512) ![0, 0] S512x512.size inb_S512x512_S512x512_0_0)) (View.ld x9 (Rect.unit (s := S1x512) ![0, 0] S1x512.size inb_S1x512_S1x512_0_0)) (View.ld x10 (Rect.unit (s := S1x512) ![0, 0] S1x512.size inb_S1x512_S1x512_0_0)) (View.ld x11 (Rect.unit (s := S1x1) ![0, 0] S1x1.size inb_S1x1_S1x1_0_0)) (View.ld x12 (Rect.unit (s := S1x1) ![0, 0] S1x1.size inb_S1x1_S1x1_0_0)) = kBlk x0 x1 x2 x3 x4 x5 x6 x7 x8 x9 x10 x11 x12 := by
  congr 1 <;> exact View.ld_unit_lit _ _ (by decide)

/-- and the k-hot block. -/
theorem khotBlk_ld (x0 : Vec F S256x1024 .f32) (x1 : Vec F S1024x512 .f32) (x2 : Vec F S1x512 .f32) (x3 : Vec F S512x4096 .f32) (x4 : Vec F S1x4096 .f32) (x5 : Vec F S1024x512 .f32) (x6 : Vec F S4096x512 .f32) (x7 : Vec F S1x512 .f32) (x8 : Vec F S512x512 .f32) (x9 : Vec F S1x512 .f32) (x10 : Vec F S1x512 .f32) (x11 : Vec F S1x1 .f32) (x12 : Vec F S1x1 .f32) :
    khotBlk (View.ld x0 (Rect.unit (s := S256x1024) ![0, 0] S256x1024.size inb_S256x1024_S256x1024_0_0)) (View.ld x1 (Rect.unit (s := S1024x512) ![0, 0] S1024x512.size inb_S1024x512_S1024x512_0_0)) (View.ld x2 (Rect.unit (s := S1x512) ![0, 0] S1x512.size inb_S1x512_S1x512_0_0)) (View.ld x3 (Rect.unit (s := S512x4096) ![0, 0] S512x4096.size inb_S512x4096_S512x4096_0_0)) (View.ld x4 (Rect.unit (s := S1x4096) ![0, 0] S1x4096.size inb_S1x4096_S1x4096_0_0)) (View.ld x5 (Rect.unit (s := S1024x512) ![0, 0] S1024x512.size inb_S1024x512_S1024x512_0_0)) (View.ld x6 (Rect.unit (s := S4096x512) ![0, 0] S4096x512.size inb_S4096x512_S4096x512_0_0)) (View.ld x7 (Rect.unit (s := S1x512) ![0, 0] S1x512.size inb_S1x512_S1x512_0_0)) (View.ld x8 (Rect.unit (s := S512x512) ![0, 0] S512x512.size inb_S512x512_S512x512_0_0)) (View.ld x9 (Rect.unit (s := S1x512) ![0, 0] S1x512.size inb_S1x512_S1x512_0_0)) (View.ld x10 (Rect.unit (s := S1x512) ![0, 0] S1x512.size inb_S1x512_S1x512_0_0)) (View.ld x11 (Rect.unit (s := S1x1) ![0, 0] S1x1.size inb_S1x1_S1x1_0_0)) (View.ld x12 (Rect.unit (s := S1x1) ![0, 0] S1x1.size inb_S1x1_S1x1_0_0)) = khotBlk x0 x1 x2 x3 x4 x5 x6 x7 x8 x9 x10 x11 x12 := by
  congr 1 <;> exact View.ld_unit_lit _ _ (by decide)

theorem cover13 (p : Vec F S256x4096 .f32) (y : S256x4096.Idx) :
    ∃ pc ∈ ([⟨(Rect.unit (s := S256x4096) ![0, 0] S256x4096.size inb_S256x4096_S256x4096_0_0), p⟩] : List (View.Piece (Elt F) S256x4096 .f32)), y ∈ pc.1.set :=
  View.cover_of_tiled [⟨(Rect.unit (s := S256x4096) ![0, 0] S256x4096.size inb_S256x4096_S256x4096_0_0), p⟩] S256x4096.size (by rfl) y

theorem cover14 (p : Vec F S256x1 .f32) (y : S256x1.Idx) :
    ∃ pc ∈ ([⟨(Rect.unit (s := S256x1) ![0, 0] S256x1.size inb_S256x1_S256x1_0_0), p⟩] : List (View.Piece (Elt F) S256x1 .f32)), y ∈ pc.1.set :=
  View.cover_of_tiled [⟨(Rect.unit (s := S256x1) ![0, 0] S256x1.size inb_S256x1_S256x1_0_0), p⟩] S256x1.size (by rfl) y

set_option maxHeartbeats 4000000 in
/-- The body on whole staging buffers, the inputs' at any contents: it runs to its return with the inputs as they
    were, the k-hot buffer at `khotBlk` of them and the `k` buffer at `kBlk` of them. -/
theorem sound_kernel (c : Dev nD) (E : Set ℕ) (i : grid0.Coords) (arg1 : Memref sig .tc .vmem S256x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x4096 .f32) (harg4 : arg4.IsWhole) (arg5 : Memref sig .tc .vmem S1x4096 .f32) (harg5 : arg5.IsWhole) (arg6 : Memref sig .tc .vmem S1024x512 .f32) (harg6 : arg6.IsWhole) (arg7 : Memref sig .tc .vmem S4096x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S256x4096 .f32) (harg14 : arg14.IsWhole) (arg15 : Memref sig .tc .vmem S256x1 .f32) (harg15 : arg15.IsWhole)
    (x0 : Vec F S256x1024 .f32) (x1 : Vec F S1024x512 .f32) (x2 : Vec F S1x512 .f32) (x3 : Vec F S512x4096 .f32) (x4 : Vec F S1x4096 .f32) (x5 : Vec F S1024x512 .f32) (x6 : Vec F S4096x512 .f32) (x7 : Vec F S1x512 .f32) (x8 : Vec F S512x512 .f32) (x9 : Vec F S1x512 .f32) (x10 : Vec F S1x512 .f32) (x11 : Vec F S1x1 .f32) (x12 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (khotBlk x0 x1 x2 x3 x4 x5 x6 x7 x8 x9 x10 x11 x12) ∗ owns (c : Thread nD τ) arg15 fullShare (kBlk x0 x1 x2 x3 x4 x5 x6 x7 x8 x9 x10 x11 x12)) -∗ K ⟨⟩))
      ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__fused_body_eq_skeleton]; unfold cc0__fused_body_skel
  simp only [k0_part1_eq_skeleton, k0_part2_eq_skeleton]
  unfold k0_part2_skel
  simp only [keyLoop_eq, tieLoop_eq]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf0 hf1 hf2 hf3 hf4 hf5 hf6 hf7 hf8 hf9 hf10 hf11 hf12
  sl_exec
  simp only [pure_bind]
  split <;> rename_i hc
  · sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists f11; isplitr; · ipureintro; rfl
      iexact H11
    isplitl [H12]
    · iexists f12; isplitr; · ipureintro; rfl
      iexact H12
    isplitl [H13]
    · iexists _; isplitr
      swap; · iexact H13
      ipureintro
      refine (View.read_writes_eq_canon _ _ _ (cover13 _)).trans ?_
      refine (View.canon_cons_unit_lit _ _ _ (by decide)).trans ?_
      refine Eq.trans ?_ (khotBlk_ld _ _ _ _ _ _ _ _ _ _ _ _ _)
      exact congrArg (k0_pay12 _ _) (if_pos hc).symm
    · iexists _; isplitr
      swap; · iexact H14
      ipureintro
      refine (View.read_writes_eq_canon _ _ _ (cover14 _)).trans ?_
      refine (View.canon_cons_unit_lit _ _ _ (by decide)).trans ?_
      exact kBlk_ld _ _ _ _ _ _ _ _ _ _ _ _ _
  · sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists f11; isplitr; · ipureintro; rfl
      iexact H11
    isplitl [H12]
    · iexists f12; isplitr; · ipureintro; rfl
      iexact H12
    isplitl [H13]
    · iexists _; isplitr
      swap; · iexact H13
      ipureintro
      refine (View.read_writes_eq_canon _ _ _ (cover13 _)).trans ?_
      refine (View.canon_cons_unit_lit _ _ _ (by decide)).trans ?_
      refine Eq.trans ?_ (khotBlk_ld _ _ _ _ _ _ _ _ _ _ _ _ _)
      exact congrArg (k0_pay12 _ _) (if_neg hc).symm
    · iexists _; isplitr
      swap; · iexact H14
      ipureintro
      refine (View.read_writes_eq_canon _ _ _ (cover14 _)).trans ?_
      refine (View.canon_cons_unit_lit _ _ _ (by decide)).trans ?_
      exact kBlk_ld _ _ _ _ _ _ _ _ _ _ _ _ _

end Cert.KernelIdealProof

end
-- ==== Proof.KernelIdealRun.lean ====
/-
  The run of `KernelIdeal` for any float values: the pipeline's proof data (each input's staging buffer at its block, each
  result's at what the body leaves), the body obligation at every point of the grid, the launch, and from it the
  frame: the arguments end as they were and every semaphore counter ends at zero.
-/
module

public import proofs.«01_k».proof.Proof.Gen.KernelIdeal.Skeleton
public import proofs.«01_k».proof.Proof.Gen.KernelIdeal.Frame
public import proofs.«01_k».proof.Proof.KernelIdealBody
public import Idealize.ShloMosaic.Lib.Exec

@[expose] public section

set_option maxRecDepth 16384

noncomputable section

namespace Cert.KernelIdealProof

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data on core `c`: the arrays as the region finds them; after the body at point `t` each input's buffer
    at its block and each result's at what the body leaves of the input blocks; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => khotBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨14, _⟩ => kBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  Φ _ := Pipeline.ΦA (Val := Elt F) spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
/-- The k-hot window's buffer after the body at point `t`. -/
theorem after0_13 (c : Dev nD) (t : Fin cfg0.N) : (dats m 0 c).after 13 t = khotBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
/-- The `k` window's buffer after the body at point `t`. -/
theorem after0_14 (c : Dev nD) (t : Fin cfg0.N) : (dats m 0 c).after 14 t = kBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation -/

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 1600000 in
/-- The body at any point: the inputs' buffers hold their blocks, so the body's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- From any memory with the counters at zero every weakly fair execution of @main terminates, every array of the
    pipeline ends at what the library computes from the proof data, and every counter ends at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_quiescent m ρ)

end Cert.KernelIdealProof

end
-- ==== Proof.TopK.lean ====
/-
  The K greatest of n extended reals, ties by position. `rank L j` counts the positions that come before `j`: those with
  a greater value, and those with the same value further left. The K chosen positions are those of rank below K.
-/
module

public import Mathlib.Data.EReal.Basic
public import Mathlib.Data.Fintype.Card
public import Mathlib.Data.Fintype.Fin
public import Mathlib.Order.Interval.Finset.Fin
public import Mathlib.Data.Finset.Max

@[expose] public section

noncomputable section

namespace Cert.TopK

open scoped Classical

variable {n : ℕ}

/-- Position `i` comes before position `j`: a greater value, or the same value further left. -/
def Beats (L : Fin n → EReal) (i j : Fin n) : Prop := L j < L i ∨ (L i = L j ∧ i < j)

/-- How many positions come before `j`. -/
def rank (L : Fin n → EReal) (j : Fin n) : ℕ := (Finset.univ.filter fun i => Beats L i j).card

theorem Beats.irrefl (L : Fin n → EReal) (i : Fin n) : ¬Beats L i i := by
  unfold Beats; simp

theorem Beats.trans {L : Fin n → EReal} {i j k : Fin n} (h : Beats L i j) (h' : Beats L j k) : Beats L i k := by
  unfold Beats at *
  rcases h with h | ⟨h, hi⟩ <;> rcases h' with h' | ⟨h', hj⟩
  · exact Or.inl (h'.trans h)
  · exact Or.inl (h' ▸ h)
  · exact Or.inl (h ▸ h')
  · exact Or.inr ⟨h.trans h', hi.trans hj⟩

/-- Of two positions one comes first. -/
theorem Beats.total (L : Fin n → EReal) {i j : Fin n} (h : i ≠ j) : Beats L i j ∨ Beats L j i := by
  unfold Beats
  rcases lt_trichotomy (L i) (L j) with hl | hl | hl
  · exact Or.inr (Or.inl hl)
  · rcases lt_or_gt_of_ne h with hi | hi
    · exact Or.inl (Or.inr ⟨hl, hi⟩)
    · exact Or.inr (Or.inr ⟨hl.symm, hi⟩)
  · exact Or.inl (Or.inl hl)

/-- The rank is below the number of positions. -/
theorem rank_lt_n (L : Fin n → EReal) (j : Fin n) : rank L j < n := by
  have h : (Finset.univ.filter fun i => Beats L i j) ⊂ Finset.univ := by
    rw [Finset.filter_ssubset]; exact ⟨j, Finset.mem_univ _, Beats.irrefl L j⟩
  have := Finset.card_lt_card h
  rwa [Finset.card_univ, Fintype.card_fin] at this

/-- What comes before has the lower rank. -/
theorem rank_lt {L : Fin n → EReal} {i j : Fin n} (h : Beats L i j) : rank L i < rank L j := by
  apply Finset.card_lt_card
  rw [Finset.ssubset_iff_of_subset]
  · exact ⟨i, by simpa using h, by simpa using Beats.irrefl L i⟩
  · intro k hk
    simp only [Finset.mem_filter, Finset.mem_univ, true_and] at hk ⊢
    exact hk.trans h

/-- No two positions share a rank. -/
theorem rank_injective (L : Fin n → EReal) : Function.Injective (rank L) := by
  intro i j h
  by_contra hne
  rcases Beats.total L hne with hb | hb
  · exact absurd (rank_lt hb) (by omega)
  · exact absurd (rank_lt hb) (by omega)

/-- Exactly `K` positions have a rank below `K`. -/
theorem card_chosen (L : Fin n → EReal) (K : ℕ) (hK : K ≤ n) : (Finset.univ.filter fun j => rank L j < K).card = K := by
  have hinj : Function.Injective fun j : Fin n => (⟨rank L j, rank_lt_n L j⟩ : Fin n) := fun i j h =>
    rank_injective L (by simpa using h)
  have hbij := Finite.injective_iff_bijective.mp hinj
  have him : (Finset.univ.filter fun j => rank L j < K).image (rank L) = Finset.range K := by
    ext p
    simp only [Finset.mem_image, Finset.mem_filter, Finset.mem_univ, true_and, Finset.mem_range]
    constructor
    · rintro ⟨j, hj, rfl⟩; exact hj
    · intro hp
      obtain ⟨j, hj⟩ := hbij.2 ⟨p, by omega⟩
      have : rank L j = p := by simpa using hj
      exact ⟨j, by omega, this⟩
  rw [← Finset.card_image_of_injective _ (rank_injective L), him, Finset.card_range]

/-- `a` is the least of the `K` chosen values. -/
structure IsCut (L : Fin n → EReal) (K : ℕ) (a : EReal) : Prop where
  le : ∀ j, rank L j < K → a ≤ L j
  mem : ∃ j, rank L j < K ∧ L j = a

/-- Some chosen value is the least, as soon as one position is chosen. -/
theorem exists_cut (L : Fin n → EReal) (K : ℕ) (h1 : 1 ≤ K) (hK : K ≤ n) : ∃ a, IsCut L K a := by
  have hne : (Finset.univ.filter fun j => rank L j < K).Nonempty := by
    rw [← Finset.card_pos, card_chosen L K hK]; omega
  obtain ⟨j, hj, hmin⟩ := Finset.exists_min_image _ L hne
  simp only [Finset.mem_filter, Finset.mem_univ, true_and] at hj hmin
  exact ⟨L j, hmin, j, hj, rfl⟩

variable {L : Fin n → EReal} {K : ℕ} {a : EReal}

/-- A value above the cut is chosen. -/
theorem IsCut.chosen_of_gt (h : IsCut L K a) {j : Fin n} (hj : a < L j) : rank L j < K := by
  obtain ⟨k, hk, hka⟩ := h.mem
  exact (rank_lt (Or.inl (hka ▸ hj))).trans hk

/-- At least `K` values are at least `t` exactly when `t` is at most the cut. -/
theorem IsCut.count_ge_iff (h : IsCut L K a) (hK : K ≤ n) (t : EReal) :
    K ≤ (Finset.univ.filter fun i => t ≤ L i).card ↔ t ≤ a := by
  constructor
  · intro hc
    by_contra ht
    obtain ⟨k, hk, hka⟩ := h.mem
    have hsub : (Finset.univ.filter fun i => t ≤ L i) ⊆ Finset.univ.filter fun i => Beats L i k := by
      intro i hi
      simp only [Finset.mem_filter, Finset.mem_univ, true_and] at hi ⊢
      exact Or.inl (by rw [hka]; exact lt_of_lt_of_le (not_le.mp ht) hi)
    have := Finset.card_le_card hsub
    unfold rank at hk
    omega
  · intro ht
    refine (card_chosen L K hK).symm.le.trans (Finset.card_le_card ?_)
    intro j hj
    simp only [Finset.mem_filter, Finset.mem_univ, true_and] at hj ⊢
    exact ht.trans (h.le j hj)

/-- Fewer than `K` values are above the cut. -/
theorem IsCut.count_gt_lt (h : IsCut L K a) : (Finset.univ.filter fun i => a < L i).card < K := by
  obtain ⟨k, hk, hka⟩ := h.mem
  refine lt_of_le_of_lt (Finset.card_le_card ?_) hk
  intro i hi
  simp only [Finset.mem_filter, Finset.mem_univ, true_and] at hi ⊢
  exact Or.inl (hka ▸ hi)

/-- The values above and at `a` are those at least `a`. -/
theorem count_gt_add_count_eq (L : Fin n → EReal) (a : EReal) :
    (Finset.univ.filter fun i => a < L i).card + (Finset.univ.filter fun i => L i = a).card
      = (Finset.univ.filter fun i => a ≤ L i).card := by
  rw [← Finset.card_union_of_disjoint]
  · congr 1
    ext i
    simp only [Finset.mem_union, Finset.mem_filter, Finset.mem_univ, true_and]
    rw [le_iff_lt_or_eq]
    constructor <;> rintro (h | h) <;> simp [h]
  · rw [Finset.disjoint_filter]
    intro i _ h h'
    exact absurd h' (ne_of_gt h)

/-- The rank of a position whose value is `a`: the values above, and the equal ones further left. -/
theorem rank_of_eq {j : Fin n} (hj : L j = a) :
    rank L j = (Finset.univ.filter fun i => a < L i).card + (Finset.univ.filter fun i => L i = a ∧ i < j).card := by
  unfold rank
  rw [← Finset.card_union_of_disjoint]
  · congr 1
    ext i
    simp only [Finset.mem_union, Finset.mem_filter, Finset.mem_univ, true_and, Beats, hj]
  · rw [Finset.disjoint_filter]
    rintro i _ h ⟨h', _⟩
    exact absurd h' (ne_of_gt h)

/-- At most `j` equal values stand left of `j`, and `j + 1` no further right. -/
theorem count_lt_add_one {j : Fin n} (hj : L j = a) :
    (Finset.univ.filter fun i => L i = a ∧ i < j).card + 1 = (Finset.univ.filter fun i => L i = a ∧ i ≤ j).card := by
  have : (Finset.univ.filter fun i => L i = a ∧ i ≤ j) = insert j (Finset.univ.filter fun i => L i = a ∧ i < j) := by
    ext i
    simp only [Finset.mem_insert, Finset.mem_filter, Finset.mem_univ, true_and]
    rw [le_iff_lt_or_eq]
    constructor
    · rintro ⟨h, h' | h'⟩
      · exact Or.inr ⟨h, h'⟩
      · exact Or.inl h'
    · rintro (rfl | ⟨h, h'⟩)
      · exact ⟨hj, Or.inr rfl⟩
      · exact ⟨h, Or.inl h'⟩
  rw [this, Finset.card_insert_of_notMem (by simp)]

/-- The choice by a threshold. Let `t` be the cut itself, or below the cut with every value not chosen below it; and let
    `s` be a last position for the ties at `t`: either it is the last of all and the ties are exactly as many as are
    still wanted, or it is the first position up to which at least as many ties stand as are still wanted. Then the
    chosen positions are those above `t` and those at `t` up to `s`. -/
theorem IsCut.chosen_iff (h : IsCut L K a) (t : EReal)
    (ht : t = a ∨ (t < a ∧ ∀ j, ¬rank L j < K → L j < t)) (s : ℕ)
    (hs : ((Finset.univ.filter fun i => L i = t).card + (Finset.univ.filter fun i => t < L i).card = K ∧ n ≤ s + 1)
      ∨ (K ≤ (Finset.univ.filter fun i => L i = t ∧ i.val ≤ s).card + (Finset.univ.filter fun i => t < L i).card
          ∧ ∀ s' < s, (Finset.univ.filter fun i => L i = t ∧ i.val ≤ s').card + (Finset.univ.filter fun i => t < L i).card < K))
    (j : Fin n) : rank L j < K ↔ (t < L j ∨ (L j = t ∧ j.val ≤ s)) := by
  rcases ht with rfl | ⟨hta, hb⟩
  · constructor
    · intro hr
      rcases (h.le j hr).lt_or_eq with hj | hj
      · exact Or.inl hj
      · refine Or.inr ⟨hj.symm, ?_⟩
        rcases hs with ⟨_, hs⟩ | ⟨hs, _⟩
        · have := j.isLt; omega
        · by_contra hjs
          rw [rank_of_eq hj.symm] at hr
          have : (Finset.univ.filter fun i => L i = t ∧ i.val ≤ s).card
              ≤ (Finset.univ.filter fun i => L i = t ∧ i < j).card := by
            apply Finset.card_le_card
            intro i hi
            simp only [Finset.mem_filter, Finset.mem_univ, true_and] at hi ⊢
            exact ⟨hi.1, by rw [Fin.lt_def]; omega⟩
          omega
    · rintro (hj | ⟨hj, hjs⟩)
      · exact h.chosen_of_gt hj
      · rw [rank_of_eq hj]
        rcases hs with ⟨hs, _⟩ | ⟨_, hs⟩
        · have h1 := count_lt_add_one hj
          have : (Finset.univ.filter fun i => L i = t ∧ i ≤ j).card ≤ (Finset.univ.filter fun i => L i = t).card := by
            apply Finset.card_le_card
            intro i hi
            simp only [Finset.mem_filter, Finset.mem_univ, true_and] at hi ⊢
            exact hi.1
          omega
        · by_cases hj0 : j.val = 0
          · have h0 : (Finset.univ.filter fun i => L i = t ∧ i < j).card = 0 := by
              rw [Finset.card_eq_zero, Finset.filter_eq_empty_iff]
              rintro i _ ⟨_, hi⟩
              rw [Fin.lt_def] at hi; omega
            have := h.count_gt_lt
            omega
          · have h1 := hs (j.val - 1) (by omega)
            have : (Finset.univ.filter fun i => L i = t ∧ i < j).card
                ≤ (Finset.univ.filter fun i => L i = t ∧ i.val ≤ j.val - 1).card := by
              apply Finset.card_le_card
              intro i hi
              simp only [Finset.mem_filter, Finset.mem_univ, true_and] at hi ⊢
              exact ⟨hi.1, by have := Fin.lt_def.mp hi.2; omega⟩
            omega
  · constructor
    · intro hr; exact Or.inl (lt_of_lt_of_le hta (h.le j hr))
    · intro hj
      by_contra hr
      have := hb j hr
      rcases hj with hj | ⟨hj, _⟩
      · exact absurd hj (not_lt.mpr this.le)
      · exact absurd hj this.ne

end Cert.TopK

end
-- ==== Proof.Float32Keys.lean ====
/-
  The float32 numbers by their keys. A key is a whole number z with |z| ≤ 2139095040; it names the float32 number whose
  magnitude bits are |z|, negated for a negative z. So the keys -2139095040 and 2139095040 name the infinities, the key 0
  names zero, and a larger key names a larger number. Every q * 2^(i-149) with |q| < 2^24 and i ≤ 253 has a key.
-/
module

public import Idealize.ShloMosaic.PureOps.Ideal
public import Idealize.ShloMosaic.Lib.TotalOrder

@[expose] public section

noncomputable section

namespace Cert.Float32Keys

open Idealize.ShloMosaic

/-- The extended real of the magnitude bits `n`. -/
def magVal (n : ℕ) : EReal := TotalOrder.absVal 8 23 (BitVec.ofNat 32 n)

/-- The extended real that the key `z` names. -/
def keyVal (z : ℤ) : EReal := if z < 0 then -magVal z.natAbs else magVal z.natAbs

/-- The exponent field of the magnitude bits `n`. -/
theorem expo_ofNat (n : ℕ) (h : n ≤ 2139095040) : TotalOrder.expo 8 23 (BitVec.ofNat 32 n) = n / 8388608 := by
  rw [TotalOrder.expo_eq, BitVec.toNat_ofNat]; norm_num; omega

/-- Their significand field. -/
theorem frac_ofNat (n : ℕ) (h : n ≤ 2139095040) : TotalOrder.frac 23 (BitVec.ofNat 32 n) = n % 8388608 := by
  rw [TotalOrder.frac_eq, BitVec.toNat_ofNat]; norm_num

/-- The magnitude of the bits `n` is `n`. -/
theorem mag_ofNat (n : ℕ) (h : n ≤ 2139095040) : TotalOrder.mag 8 23 (BitVec.ofNat 32 n) = n := by
  unfold TotalOrder.mag; rw [expo_ofNat n h, frac_ofNat n h]; norm_num; omega

/-- No key's bits are a NaN. -/
theorem not_nan_ofNat (n : ℕ) (h : n ≤ 2139095040) : ¬TotalOrder.IsNaN 8 23 (BitVec.ofNat 32 n) := by
  unfold TotalOrder.IsNaN; rw [expo_ofNat n h, frac_ofNat n h]; norm_num; omega

/-- A larger magnitude has a larger value. -/
theorem magVal_lt {a b : ℕ} (ha : a ≤ 2139095040) (hb : b ≤ 2139095040) : magVal a < magVal b ↔ a < b := by
  unfold magVal
  rw [TotalOrder.absVal_lt_absVal_iff (not_nan_ofNat a ha) (not_nan_ofNat b hb), mag_ofNat a ha, mag_ofNat b hb]

/-- A magnitude's value is not negative. -/
theorem magVal_nonneg (n : ℕ) : 0 ≤ magVal n := TotalOrder.absVal_nonneg _

/-- The value of a magnitude with significand `q` in the unit `2^(i-149)`: a subnormal (`i = 0`) or one whose leading
    bit is set. -/
theorem magVal_of_unit (q i : ℕ) (hq : q < 16777216) (hi : i ≤ 253) (h : i = 0 ∨ 8388608 ≤ q) :
    magVal (i * 8388608 + q) = (((q : ℝ) * 2 ^ i * (2 : ℝ) ^ (-149 : ℤ) : ℝ) : EReal) := by
  have hn : i * 8388608 + q ≤ 2139095040 := by omega
  unfold magVal TotalOrder.absVal
  rw [expo_ofNat _ hn, frac_ofNat _ hn, if_neg (by norm_num; omega)]
  have hu : TotalOrder.ulp 8 23 = (2 : ℝ) ^ (-149 : ℤ) := by unfold TotalOrder.ulp; norm_num
  rw [hu]
  congr 2
  unfold TotalOrder.sig
  by_cases hs : q < 8388608
  · obtain rfl : i = 0 := by omega
    rw [if_pos (by omega)]
    have h1 : (0 * 8388608 + q) % 8388608 = q := by omega
    have h2 : (0 * 8388608 + q) / 8388608 = 0 := by omega
    rw [h1, h2]; simp
  · rw [if_neg (by omega)]
    have h1 : (i * 8388608 + q) % 8388608 + 2 ^ 23 = q := by norm_num; omega
    have h2 : (i * 8388608 + q) / 8388608 - 1 = i := by omega
    rw [h1, h2]; push_cast; ring

/-- Magnitude zero is zero. -/
theorem magVal_zero : magVal 0 = 0 := by
  have h := magVal_of_unit 0 0 (by norm_num) (by norm_num) (Or.inl rfl)
  simpa using h

/-- The largest magnitude is the infinity. -/
theorem magVal_top : magVal 2139095040 = ⊤ := by
  unfold magVal TotalOrder.absVal
  rw [expo_ofNat _ (le_refl _), if_pos (by norm_num)]

/-- The least key names -∞, -/
theorem keyVal_bot : keyVal (-2139095040) = ⊥ := by
  unfold keyVal; rw [if_pos (by norm_num)]; show -magVal 2139095040 = ⊥; rw [magVal_top]; rfl

/-- and the greatest +∞. -/
theorem keyVal_top : keyVal 2139095040 = ⊤ := by
  unfold keyVal; rw [if_neg (by norm_num)]; exact magVal_top

/-- A larger key names a larger number. -/
theorem keyVal_lt {a b : ℤ} (ha : -2139095040 ≤ a) (hb : b ≤ 2139095040) (h : a < b) : keyVal a < keyVal b := by
  unfold keyVal
  by_cases hb0 : b < 0
  · rw [if_pos (by omega), if_pos hb0, EReal.neg_lt_neg_iff, magVal_lt (by omega) (by omega)]
    omega
  · rw [if_neg hb0]
    by_cases ha0 : a < 0
    · rw [if_pos ha0]
      have h1 : magVal 0 < magVal a.natAbs := (magVal_lt (by omega) (by omega)).mpr (by omega)
      rw [magVal_zero] at h1
      have h2 : -magVal a.natAbs < 0 := by
        rw [EReal.neg_lt_comm, neg_zero]; exact h1
      exact lt_of_lt_of_le h2 (magVal_nonneg _)
    · rw [if_neg ha0, magVal_lt (by omega) (by omega)]; omega

/-- So keys are ordered as the numbers they name. -/
theorem keyVal_le {a b : ℤ} (ha : -2139095040 ≤ a) (hb : b ≤ 2139095040) (h : a ≤ b) : keyVal a ≤ keyVal b := by
  rcases h.lt_or_eq with h | rfl
  · exact (keyVal_lt ha hb h).le
  · exact le_refl _

/-- The word of a key: the magnitude bits, with the sign bit for a negative key. It denotes the number the key names. -/
theorem ofBits_key (k : BitVec 32) (hl : -2139095040 ≤ k.toInt) (hu : k.toInt ≤ 2139095040) :
    Ideal.ofBits .f32 (if 0 ≤ k.toInt then k else 2147483648#32 - k) = keyVal k.toInt := by
  show Ideal.ieee 8 23 _ = _
  have hk := k.isLt
  have hz : k.toInt = if 2 * k.toNat < 2 ^ 32 then (k.toNat : ℤ) else (k.toNat : ℤ) - (2 ^ 32 : ℕ) := BitVec.toInt_eq_toNat_cond k
  norm_num at hz
  unfold keyVal
  by_cases h0 : 0 ≤ k.toInt
  · rw [if_pos h0, if_neg (by omega)]
    have hkn : k = BitVec.ofNat 32 k.toInt.natAbs := by
      apply BitVec.eq_of_toNat_eq; rw [BitVec.toNat_ofNat]; split at hz <;> omega
    have hm : k.msb = false := by
      rw [BitVec.msb_eq_false_iff_two_mul_lt]; split at hz <;> omega
    have hn : ¬TotalOrder.IsNaN 8 23 k := by rw [hkn]; exact not_nan_ofNat _ (by omega)
    rw [TotalOrder.ieee_eq_signed_absVal hn, show TotalOrder.sign 8 23 k = k.msb from TotalOrder.sign_eq_msb (e := 8) (m := 23) k, hm]
    unfold magVal
    rw [← hkn]; rfl
  · rw [if_neg h0, if_pos (by omega)]
    set c : BitVec 32 := 2147483648#32 - k with hc
    have hcn : c.toNat = 2147483648 + k.toInt.natAbs := by
      rw [hc, BitVec.toNat_sub, BitVec.toNat_ofNat]; norm_num; split at hz <;> omega
    have hm : c.msb = true := by
      rw [BitVec.msb_eq_true_iff_two_mul_ge]; omega
    have he : TotalOrder.expo 8 23 c = TotalOrder.expo 8 23 (BitVec.ofNat 32 k.toInt.natAbs) := by
      rw [TotalOrder.expo_eq, expo_ofNat _ (by omega), hcn]; norm_num; omega
    have hf : TotalOrder.frac 23 c = TotalOrder.frac 23 (BitVec.ofNat 32 k.toInt.natAbs) := by
      rw [TotalOrder.frac_eq, frac_ofNat _ (by omega), hcn]; norm_num; omega
    have hn : ¬TotalOrder.IsNaN 8 23 c := by
      have := not_nan_ofNat k.toInt.natAbs (by omega)
      unfold TotalOrder.IsNaN at this ⊢
      rwa [he, hf]
    rw [TotalOrder.ieee_eq_signed_absVal hn, show TotalOrder.sign 8 23 c = c.msb from TotalOrder.sign_eq_msb (e := 8) (m := 23) c, hm]
    unfold magVal TotalOrder.absVal
    rw [he, hf]; rfl

/-- Every `q * 2^(i-149)` with `q < 2^24` and `i ≤ 253` is a magnitude's value. -/
theorem exists_mag (i : ℕ) : ∀ q : ℕ, q < 16777216 → i ≤ 253 →
    ∃ n : ℕ, n ≤ 2139095040 ∧ magVal n = (((q : ℝ) * 2 ^ i * (2 : ℝ) ^ (-149 : ℤ) : ℝ) : EReal) := by
  induction i with
  | zero => intro q hq hi; exact ⟨0 * 8388608 + q, by omega, magVal_of_unit q 0 hq hi (Or.inl rfl)⟩
  | succ i ih =>
    intro q hq hi
    by_cases hs : 8388608 ≤ q
    · exact ⟨(i + 1) * 8388608 + q, by omega, magVal_of_unit q (i + 1) hq hi (Or.inr hs)⟩
    · obtain ⟨n, hn, h⟩ := ih (2 * q) (by omega) (by omega)
      refine ⟨n, hn, h.trans ?_⟩
      congr 1; push_cast; ring

/-- Every `q * 2^(i-149)` with `|q| < 2^24` and `i ≤ 253` has a key. -/
theorem exists_key (i : ℕ) (hi : i ≤ 253) (q : ℤ) (hq : |q| < 16777216) :
    ∃ z : ℤ, -2139095040 ≤ z ∧ z ≤ 2139095040 ∧ keyVal z = (((q : ℝ) * 2 ^ i * (2 : ℝ) ^ (-149 : ℤ) : ℝ) : EReal) := by
  obtain ⟨n, hn, h⟩ := exists_mag i q.natAbs (by rw [Int.abs_eq_natAbs] at hq; omega) hi
  by_cases h0 : 0 ≤ q
  · refine ⟨n, by omega, by omega, ?_⟩
    unfold keyVal
    rw [if_neg (by omega), Int.natAbs_natCast, h]
    have : ((q.natAbs : ℕ) : ℝ) = (q : ℝ) := by
      rw [← Int.cast_natCast, Int.natAbs_of_nonneg h0]
    rw [this]
  · have hq' : ((q.natAbs : ℕ) : ℝ) = -(q : ℝ) := by
      rw [← Int.cast_natCast, Int.ofNat_natAbs_of_nonpos (by omega)]; push_cast; ring
    have hneg : -magVal n = (((q : ℝ) * 2 ^ i * (2 : ℝ) ^ (-149 : ℤ) : ℝ) : EReal) := by
      rw [h, hq', ← EReal.coe_neg]; congr 1; ring
    refine ⟨-n, by omega, by omega, ?_⟩
    unfold keyVal
    rw [Int.natAbs_neg, Int.natAbs_natCast]
    split
    · exact hneg
    · have : n = 0 := by omega
      subst this
      rw [magVal_zero] at hneg ⊢
      rw [← hneg, neg_zero]

/-- The word of the unit `2^(i-149)`: bit `i` for a subnormal, and the exponent field `i - 22` otherwise. -/
theorem ofBits_unit (i : ℕ) (hi : i ≤ 253) :
    Ideal.ofBits .f32 (BitVec.ofNat 32 (if i < 23 then 2 ^ i else (i - 22) * 8388608))
      = (((2 : ℝ) ^ i * (2 : ℝ) ^ (-149 : ℤ) : ℝ) : EReal) := by
  have key : ∀ n : ℕ, n < 2139095040 → Ideal.ofBits .f32 (BitVec.ofNat 32 n) = magVal n := by
    intro n hn
    have hi : (BitVec.ofNat 32 n).toInt = n := by
      rw [BitVec.toInt_eq_toNat_cond, BitVec.toNat_ofNat]; norm_num; omega
    have h := ofBits_key (BitVec.ofNat 32 n) (by omega) (by omega)
    rw [hi, if_pos (by omega)] at h
    rw [h]; unfold keyVal; rw [if_neg (by omega), Int.natAbs_natCast]
  by_cases h : i < 23
  · have h2 : 2 ^ i < 8388608 := by
      calc 2 ^ i < 2 ^ 23 := Nat.pow_lt_pow_right (by norm_num) h
        _ = 8388608 := by norm_num
    rw [if_pos h, key _ (by omega)]
    have := magVal_of_unit (2 ^ i) 0 (by omega) (by norm_num) (Or.inl rfl)
    rw [Nat.zero_mul, Nat.zero_add] at this
    rw [this]; congr 1; push_cast; ring
  · rw [if_neg h, key _ (by omega)]
    have := magVal_of_unit 8388608 (i - 23) (by norm_num) (by omega) (Or.inr (le_refl _))
    rw [show (i - 23) * 8388608 + 8388608 = (i - 22) * 8388608 by omega] at this
    rw [this]; congr 1
    have h3 : (2 : ℝ) ^ i = 2 ^ (i - 23) * 2 ^ 23 := by rw [← pow_add]; congr 1; omega
    rw [h3]; push_cast; ring

end Cert.Float32Keys

end
-- ==== Proof.Counts.lean ====
/-
  Bits as numbers. A one-bit word widened and converted to a float is 0 or 1, a sum of such is a count, and comparisons
  between counts and a whole number over the extended reals are comparisons of naturals.
-/
module

public import Idealize.ShloMosaic.PureOps.Ideal
public import Idealize.ShloMosaic.Lib.Pointwise
public import proofs.«01_k».proof.Proof.Float32Keys

@[expose] public section

noncomputable section

namespace Cert.Counts

open Idealize.ShloMosaic
open scoped Classical

/-- A bit, widened and converted. -/
theorem sitofp_bit (b : BitVec 1) :
    (FloatOps.sitofp (F := Ideal) FTy.f32 (BitVec.setWidth 32 b) : EReal) = if b = 1#1 then 1 else 0 := by
  show (((BitVec.setWidth 32 b).toInt : ℝ) : EReal) = _
  obtain rfl | rfl : b = 0#1 ∨ b = 1#1 := by revert b; decide
  · have h : (BitVec.setWidth 32 (0#1)).toInt = 0 := by decide
    rw [h, if_neg (by decide)]; norm_num
  · have h : (BitVec.setWidth 32 (1#1)).toInt = 1 := by decide
    rw [h, if_pos rfl]; norm_num

/-- The bit of a proposition is set when it holds. -/
theorem ofBool_decide (p : Prop) [Decidable p] : BitVec.ofBool (decide p) = 1#1 ↔ p := by
  by_cases h : p <;> simp [h]

/-- The conjunction of two bits. -/
theorem andi_eq_one (a b : BitVec 1) : IntOp.andi a b = 1#1 ↔ a = 1#1 ∧ b = 1#1 := by
  revert a b; decide

/-- Their disjunction. -/
theorem ori_eq_one (a b : BitVec 1) : IntOp.ori a b = 1#1 ↔ a = 1#1 ∨ b = 1#1 := by
  revert a b; decide

/-- The signed comparison "at most". -/
theorem sle_eq_one (a b : BitVec 32) : IntOp.cmpi .sle a b = 1#1 ↔ a.toInt ≤ b.toInt := by
  show BitVec.ofBool (a.sle b) = 1#1 ↔ _
  rw [← BitVec.sle_iff_toInt_le]
  cases a.sle b <;> simp

/-- The signed comparison "at least". -/
theorem sge_eq_one (a b : BitVec 32) : IntOp.cmpi .sge a b = 1#1 ↔ b.toInt ≤ a.toInt := by
  show BitVec.ofBool (b.sle a) = 1#1 ↔ _
  rw [← BitVec.sle_iff_toInt_le]
  cases b.sle a <;> simp

/-- The signed comparison "below". -/
theorem slt_eq_one (a b : BitVec 32) : IntOp.cmpi .slt a b = 1#1 ↔ a.toInt < b.toInt := by
  show BitVec.ofBool (a.slt b) = 1#1 ↔ _
  rw [← BitVec.slt_iff_toInt_lt]
  cases a.slt b <;> simp

/-- A small position as a word. -/
theorem toInt_ofNat (n : ℕ) (h : n < 2147483648) : (BitVec.ofNat 32 n).toInt = n := by
  rw [BitVec.toInt_eq_toNat_cond, BitVec.toNat_ofNat]; norm_num; omega

/-- A sum of bits is a count. -/
theorem sum_bits {n : ℕ} (b : Fin n → BitVec 1) (p : Fin n → Prop) [DecidablePred p] (h : ∀ x, b x = 1#1 ↔ p x) :
    ∑ x, (FloatOps.sitofp (F := Ideal) FTy.f32 (BitVec.setWidth 32 (b x)) : EReal)
      = (((Finset.univ.filter p).card : ℕ) : EReal) := by
  have : ∀ x, (FloatOps.sitofp (F := Ideal) FTy.f32 (BitVec.setWidth 32 (b x)) : EReal) = if p x then 1 else 0 := by
    intro x; rw [sitofp_bit]; by_cases hp : p x
    · rw [if_pos ((h x).mpr hp), if_pos hp]
    · rw [if_neg (fun hb => hp ((h x).mp hb)), if_neg hp]
  simp only [this]
  rw [Finset.sum_ite, Finset.sum_const, Finset.sum_const_zero, add_zero, nsmul_one]

/-- A whole number less a count is at most a count exactly when the number is at most the sum of the two. -/
theorem sub_le_count (K g e : ℕ) : ((K : EReal) - (g : EReal)) ≤ (e : EReal) ↔ K ≤ e + g := by
  rw [← EReal.coe_natCast, ← EReal.coe_natCast, ← EReal.coe_natCast, ← EReal.coe_sub, EReal.coe_le_coe_iff,
    sub_le_iff_le_add]
  exact_mod_cast Iff.rfl

/-- And equal to it exactly when the number is their sum. -/
theorem count_eq_sub (K g e : ℕ) : (e : EReal) = ((K : EReal) - (g : EReal)) ↔ e + g = K := by
  rw [← EReal.coe_natCast, ← EReal.coe_natCast, ← EReal.coe_natCast, ← EReal.coe_sub, EReal.coe_eq_coe_iff,
    eq_sub_iff_add_eq]
  exact_mod_cast Iff.rfl

/-- Counts compare as naturals. -/
theorem count_le (K e : ℕ) : (K : EReal) ≤ (e : EReal) ↔ K ≤ e := by
  rw [← EReal.coe_natCast, ← EReal.coe_natCast, EReal.coe_le_coe_iff]
  exact_mod_cast Iff.rfl

/-- The word the kernel reads a key as denotes the number the key names. -/
theorem ofBits_select (k : BitVec 32) (hl : -2139095040 ≤ k.toInt) (hu : k.toInt ≤ 2139095040) :
    Ideal.ofBits FTy.f32 (Scalar.select (IntOp.cmpi .sge k 0#32) k (IntOp.subi 2147483648#32 k)) = Float32Keys.keyVal k.toInt := by
  rw [← Float32Keys.ofBits_key k hl hu]
  congr 1
  have h := sge_eq_one k 0#32
  have h0 : (0#32 : BitVec 32).toInt = 0 := by decide
  rw [h0] at h
  change (if IntOp.cmpi .sge k 0#32 = 1#1 then k else IntOp.subi 2147483648#32 k) = _
  by_cases hk : 0 ≤ k.toInt
  · rw [if_pos hk, if_pos (h.mpr hk)]
  · rw [if_neg hk, if_neg (fun hc => hk (h.mp hc))]; rfl

end Cert.Counts

end
-- ==== Proof.Sorting.lean ====
/-
  A sort of positions by falling value, then a sort of the sorted positions: the second sort's result at `j` is the rank
  of `j`, the number of positions whose value is greater, or equal and further left.
-/
module

public import Idealize.ShloMosaic.Lib.SortFacts
public import Idealize.ShloMosaic.Lib.Pointwise
public import proofs.«01_k».proof.Proof.TopK
public import proofs.«01_k».proof.Proof.Counts

@[expose] public section

noncomputable section

namespace Cert.Sorting

open Idealize.ShloMosaic Cert.TopK
open scoped Classical

variable {n : ℕ}

/-- The rank as a permutation of the positions. -/
def rankPerm (L : Fin n → EReal) : Equiv.Perm (Fin n) :=
  Equiv.ofBijective (fun j => ⟨rank L j, rank_lt_n L j⟩)
    (Finite.injective_iff_bijective.mp fun i j h => rank_injective L (by simpa using h))

theorem rankPerm_val (L : Fin n → EReal) (j : Fin n) : (rankPerm L j).val = rank L j := rfl

/-- Two orders that agree on every pair written in the list's order sort the list alike: the sort asks only whether a
    later element goes before an earlier one. -/
theorem stableSort_of_agree {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- Positions have a lower rank exactly when they come first. -/
theorem rank_lt_iff (L : Fin n → EReal) (i j : Fin n) : rank L i < rank L j ↔ Beats L i j := by
  constructor
  · intro h
    by_contra hb
    by_cases he : i = j
    · subst he; exact absurd h (lt_irrefl _)
    · rcases Beats.total L he with h' | h'
      · exact hb h'
      · exact absurd (rank_lt h') (by omega)
  · exact rank_lt

/-- Sorting the positions by falling value puts at place `p` the position of rank `p`. -/
theorem sortedFrom_falling (L : Fin n → EReal) (R : Fin n → Fin n → Bool) (hR : ∀ i j, R i j = true ↔ L j < L i) (p : Fin n) :
    sortedFrom R p = (rankPerm L).symm p := by
  have hs : sortPositions n R = List.ofFn (rankPerm L).symm := by
    rw [← sortPositions_of_perm (rankPerm L).symm]
    refine stableSort_of_agree _ _ _ ?_
    refine (List.pairwise_lt_finRange n).imp ?_
    intro a b hab
    rw [Bool.eq_iff_iff, hR, decide_eq_true_iff, Equiv.symm_symm, Fin.lt_def, rankPerm_val, rankPerm_val, rank_lt_iff]
    unfold Beats
    constructor
    · exact Or.inl
    · rintro (h | ⟨_, h⟩)
      · exact h
      · exact absurd h (not_lt.mpr hab.le)
  unfold sortedFrom
  rw [List.get_of_eq hs]
  simp

/-- Sorting the positions by a permutation of them inverts it. -/
theorem sortedFrom_perm (σ : Equiv.Perm (Fin n)) (R : Fin n → Fin n → Bool) (hR : ∀ i j, R i j = true ↔ σ i < σ j) (p : Fin n) :
    sortedFrom R p = σ.symm p := by
  have hs : sortPositions n R = List.ofFn σ.symm := by
    rw [← sortPositions_of_perm σ.symm]
    congr 1
    funext i j
    rw [Bool.eq_iff_iff, hR, decide_eq_true_iff, Equiv.symm_symm]
  unfold sortedFrom
  rw [List.get_of_eq hs]
  simp

/-- Position `k` of the row through `(r, j)` is `(r, k)`. -/
theorem along_row {a b : ℕ} (r : Fin a) (j k : Fin b) :
    Shape.Idx.along (s := ⟨2, ![a, b]⟩) (ix2 r j) (1 : Fin 2) k = ix2 r k := by
  funext i
  unfold Shape.Idx.along
  match i with
  | ⟨0, _⟩ => exact Function.update_of_ne (fun h => absurd (congrArg Fin.val h) Nat.zero_ne_one) _ _
  | ⟨1, _⟩ => exact Function.update_self _ _ _

/-- The second result of a two-operand sort along the rows of a matrix. -/
theorem sort2_row {a b : ℕ} {α β : Type} (cmp : α × β → α × β → BitVec 1) (x : (⟨2, ![a, b]⟩ : Shape).Idx → α)
    (y : (⟨2, ![a, b]⟩ : Shape).Idx → β) (r : Fin a) (j : Fin b) :
    (Host.sort2 ⟨2, ![a, b]⟩ 1 cmp x y).2 (ix2 r j)
      = y (ix2 r (sortedFrom (fun k k' => cmp (x (ix2 r k), y (ix2 r k)) (x (ix2 r k'), y (ix2 r k')) == 1#1) j)) := by
  have h : (1 : ℕ) < (⟨2, ![a, b]⟩ : Shape).rank := Nat.one_lt_two
  unfold Host.sort2
  rw [dif_pos h]
  have hal : (fun k : Fin b => Shape.Idx.along (s := ⟨2, ![a, b]⟩) (ix2 r j) (1 : Fin 2) k) = fun k => ix2 r k :=
    funext (along_row r j)
  exact congrArg (fun f : Fin b → (⟨2, ![a, b]⟩ : Shape).Idx =>
    y (f (sortedFrom (fun k k' => cmp (x (f k), y (f k)) (x (f k'), y (f k')) == 1#1) j))) hal

/-- The comparison of two floats that the sort makes, zeros and NaNs put alike: over the extended reals it is "less". -/
def floatBefore (l r : EReal) : BitVec 1 :=
  FloatOps.cmpfTotal (F := Ideal) (φ := .f32) .lt
    (Scalar.select (FloatOps.cmpf (F := Ideal) (φ := .f32) .une l l) (FloatOps.ofBits (F := Ideal) .f32 0x7FC00000#32)
      (Scalar.select (FloatOps.cmpf (F := Ideal) (φ := .f32) .oeq l (FloatOps.ofBits (F := Ideal) .f32 0x00000000#32))
        (FloatOps.ofBits (F := Ideal) .f32 0x00000000#32) l))
    (Scalar.select (FloatOps.cmpf (F := Ideal) (φ := .f32) .une r r) (FloatOps.ofBits (F := Ideal) .f32 0x7FC00000#32)
      (Scalar.select (FloatOps.cmpf (F := Ideal) (φ := .f32) .oeq r (FloatOps.ofBits (F := Ideal) .f32 0x00000000#32))
        (FloatOps.ofBits (F := Ideal) .f32 0x00000000#32) r))

/-- The value a comparison sees is the value itself. -/
theorem float_seen (x : EReal) :
    (Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32))
        (FloatOps.ofBits (F := Ideal) .f32 0x00000000#32) x) : EReal) = x := by
  have h0 : (FloatOps.ofBits (F := Ideal) .f32 0x00000000#32 : EReal) = 0 := Ideal.ofBits_zero_f32
  have h1 : FloatOps.cmpf (F := Ideal) (φ := .f32) .une x x = 0#1 := by
    show BitVec.ofBool (decide (x ≠ x)) = 0#1
    simp
  rw [h1, h0]
  show (if FloatOps.cmpf (F := Ideal) (φ := .f32) .oeq x (0 : EReal) = 1#1 then (0 : EReal) else x) = x
  have h2 : FloatOps.cmpf (F := Ideal) (φ := .f32) .oeq x (0 : EReal) = BitVec.ofBool (decide (x = 0)) := rfl
  rw [h2]
  by_cases h : x = 0
  · rw [if_pos ((Counts.ofBool_decide _).mpr h), h]
  · rw [if_neg (fun hc => h ((Counts.ofBool_decide _).mp hc))]

/-- The sort's comparison is "less". -/
theorem floatBefore_eq_one (l r : EReal) : floatBefore l r = 1#1 ↔ l < r := by
  unfold floatBefore
  rw [float_seen, float_seen]
  show BitVec.ofBool (decide (l < r)) = 1#1 ↔ _
  rw [Counts.ofBool_decide]

/-- THE RANKS: the positions of each row sorted by rising negated value, and the result's positions sorted by rising
    position, give every position's rank. -/
theorem ranks_apply {a b : ℕ} (hb : b < 2147483648) (cmp : EReal × BitVec 32 → EReal × BitVec 32 → BitVec 1)
    (hcmp : ∀ l r, cmp l r = floatBefore l.1 r.1) (cmp' : BitVec 32 × BitVec 32 → BitVec 32 × BitVec 32 → BitVec 1)
    (hcmp' : ∀ l r, cmp' l r = IntOp.cmpi .slt l.1 r.1) (x : (⟨2, ![a, b]⟩ : Shape).Idx → EReal) (r : Fin a) (j : Fin b) :
    (Host.sort2 ⟨2, ![a, b]⟩ 1 cmp' (Host.sort2 ⟨2, ![a, b]⟩ 1 cmp (fun i => -x i) (iotaInDim ⟨2, ![a, b]⟩ 32 1)).2
        (iotaInDim ⟨2, ![a, b]⟩ 32 1)).2 (ix2 r j)
      = BitVec.ofNat 32 (rank (fun k => x (ix2 r k)) j) := by
  have hi : ∀ k : Fin b, iotaInDim ⟨2, ![a, b]⟩ 32 1 (ix2 r k) = BitVec.ofNat 32 k.val := fun k => rfl
  have h1 : ∀ k : Fin b, (Host.sort2 ⟨2, ![a, b]⟩ 1 cmp (fun i => -x i) (iotaInDim ⟨2, ![a, b]⟩ 32 1)).2 (ix2 r k)
      = BitVec.ofNat 32 ((rankPerm fun k => x (ix2 r k)).symm k).val := by
    intro k
    rw [sort2_row, sortedFrom_falling (fun k => x (ix2 r k)), hi]
    intro i i'
    rw [beq_iff_eq, hcmp, floatBefore_eq_one, EReal.neg_lt_neg_iff]
  rw [sort2_row, sortedFrom_perm (rankPerm fun k => x (ix2 r k)).symm, hi, Equiv.symm_symm, rankPerm_val]
  intro i i'
  rw [beq_iff_eq, hcmp', Counts.slt_eq_one, h1, h1, Counts.toInt_ofNat _ (by have := Fin.isLt ((rankPerm fun k => x (ix2 r k)).symm i); omega),
    Counts.toInt_ofNat _ (by have := Fin.isLt ((rankPerm fun k => x (ix2 r k)).symm i'); omega), Nat.cast_lt, Fin.lt_def]

end Cert.Sorting

end
-- ==== Proof.Gather.lean ====
/-
  Reading a row's entries at given positions: the gather of one entry per row and column, at an index.
-/
module

public import Idealize.ShloMosaic.Lib.ValueIdxCore

@[expose] public section

set_option maxRecDepth 16384

noncomputable section

namespace Cert.Gather

open Idealize.ShloMosaic Idealize.ShloMosaic.TcCoe Idealize.ShloMosaic.ValueIdx

variable {R N C w : ℕ} {α : Type}

/-- The dimension numbers of reading, in each row, the entries at given columns. -/
abbrev colDims (R N C : ℕ)
    (wf : GatherDims.WF ⟨2, ![R, N]⟩ ⟨3, ![R, C, 1]⟩ ⟨2, ![R, C]⟩ [] [1] [0] [1] [0] 2 ![1, 1]) :
    GatherDims ⟨2, ![R, N]⟩ ⟨3, ![R, C, 1]⟩ ⟨2, ![R, C]⟩ where
  offsetDims := []
  collapsedSliceDims := [1]
  operandBatchingDims := [0]
  startIndicesBatchingDims := [0]
  startIndexMap := [1]
  indexVectorDim := 2
  sliceSizes := ![1, 1]
  wf := wf

/-- The entry read at row `r` and place `j` is the row's entry at the column named there, when that column exists. -/
theorem colDims_apply
    (wf : GatherDims.WF ⟨2, ![R, N]⟩ ⟨3, ![R, C, 1]⟩ ⟨2, ![R, C]⟩ [] [1] [0] [1] [0] 2 ![1, 1])
    (x : (⟨2, ![R, N]⟩ : Shape).Idx → α) (pos : IVec ⟨3, ![R, C, 1]⟩ w) (r : Fin R) (j : Fin C) (p : Fin N)
    (hp : (pos (ix3 r j 0)).toInt = p.val) :
    Host.gather (colDims R N C wf) x pos (ix2 r j) = x (ix2 r p) := by
  unfold Host.gather
  refine congrArg x (funext fun a => Fin.ext ?_)
  show (colDims R N C wf).start (ix2 r j) pos a + (colDims R N C wf).batchCoord (ix2 r j) a
    + (colDims R N C wf).offCoord (ix2 r j) a = _
  have two : a = 1 ∨ a = 0 := by
    match a with
    | ⟨0, _⟩ => exact Or.inr rfl
    | ⟨1, _⟩ => exact Or.inl rfl
  rcases two with rfl | rfl
  · have hb : (colDims R N C wf).batchCoord (ix2 r j) 1 = 0 :=
      GatherDims.batchCoord_eq_zero _ _ _ (fun h => by simp at h)
    have ho : (colDims R N C wf).offCoord (ix2 r j) 1 = 0 :=
      GatherDims.offCoord_eq_zero _ _ _ (fun h => ((GatherDims.mem_sKept _ _).mp h).1 (List.mem_singleton.mpr rfl))
    have hm : (1 : Fin 2) ∈ (colDims R N C wf).startIndexMap := List.mem_singleton.mpr rfl
    have hi : (colDims R N C wf).siIdx (ix2 r j) ⟨List.idxOf (1 : Fin 2) (colDims R N C wf).startIndexMap,
        List.idxOf_lt_length_iff.2 hm⟩ = ix3 r j 0 := by
      funext b
      match b with
      | ⟨0, _⟩ => exact Fin.ext rfl
      | ⟨1, _⟩ => exact Fin.ext rfl
      | ⟨2, _⟩ => exact Fin.ext rfl
    rw [hb, ho]
    unfold GatherDims.start
    rw [dif_pos hm, hi]
    show min (pos (ix3 r j 0)).toInt.toNat (N - 1) + 0 + 0 = p.val
    have := p.isLt
    rw [hp]; omega
  · have hs : (colDims R N C wf).start (ix2 r j) pos 0 = 0 :=
      GatherDims.start_batching _ _ _ _ (List.mem_singleton.mpr rfl)
    have ho : (colDims R N C wf).offCoord (ix2 r j) 0 = 0 :=
      GatherDims.offCoord_eq_zero _ _ _ (fun h => ((GatherDims.mem_sKept _ _).mp h).2 (List.mem_singleton.mpr rfl))
    rw [hs, ho]
    unfold GatherDims.batchCoord
    rw [dif_pos (List.mem_singleton.mpr rfl)]
    show 0 + r.val + 0 = r.val
    omega

end Cert.Gather

end
-- ==== Proof.RefTerms.lean ====
/-
  What the reference computes, in named pieces over the extended reals: the logits, the hidden layer of the `k` head, the
  `k` column, the ranks, and the k-hot array read through them.
-/
module

public import proofs.«01_k».proof.Proof.Gen.ReferenceIdeal.Run
public import proofs.«01_k».proof.Proof.Sorting
public import proofs.«01_k».proof.Proof.Gather
public import Idealize.ShloMosaic.Lib.Pointwise

@[expose] public section

set_option maxRecDepth 16384

noncomputable section

namespace Cert.RefTerms

open Idealize.ShloMosaic Idealize.ShloMosaic.TcCoe Cert.ReferenceIdeal Cert.ReferenceIdeal.Gen Cert.TopK

/-- The linear layer of a row of the logits: a ReLU layer, then a product and a bias. -/
def logits (a0 : FVec Ideal S4096x1024 .f32) (a1 : FVec Ideal S1024x512 .f32) (a2 : FVec Ideal S512 .f32)
    (a3 : FVec Ideal S512x4096 .f32) (a4 : FVec Ideal S4096 .f32) : FVec Ideal S4096x4096 .f32 :=
  addf (Host.dotGeneral dot_S4096x512_S512x4096_S4096x4096_1_0_0_1_n_n none (maximumf (addf (Host.dotGeneral dot_S4096x1024_S1024x512_S4096x512_1_0_0_1_n_n none a0 a1) (broadcastInDim S4096x512 ![0, 1] bcast_S1x512_S4096x512_0_1 (broadcastInDim S1x512 ![1] bcast_S512_S1x512_1 a2))) (broadcastInDim S4096x512 ![] bcast_S_S4096x512 (constant S_ .f32 0x00000000#32))) a3) (broadcastInDim S4096x4096 ![0, 1] bcast_S1x4096_S4096x4096_0_1 (broadcastInDim S1x4096 ![1] bcast_S4096_S1x4096_1 a4))

/-- The first layer of the `k` head, on the inputs beside the logits. -/
def hidden (a0 : FVec Ideal S4096x1024 .f32) (lg : FVec Ideal S4096x4096 .f32) (a5 : FVec Ideal S5120x512 .f32)
    (a6 : FVec Ideal S512 .f32) : FVec Ideal S4096x512 .f32 :=
  maximumf (addf (Host.dotGeneral dot_S4096x5120_S5120x512_S4096x512_1_0_0_1_n_n none (concatenate S4096x5120 1 [⟨S4096x1024, a0⟩, ⟨S4096x4096, lg⟩] concatenates_S4096x1024_S4096x4096_S4096x5120_d1) a5) (broadcastInDim S4096x512 ![0, 1] bcast_S1x512_S4096x512_0_1 (broadcastInDim S1x512 ![1] bcast_S512_S1x512_1 a6))) (broadcastInDim S4096x512 ![] bcast_S_S4096x512 (constant S_ .f32 0x00000000#32))

/-- The clip to `[1, 4096]`. -/
def clip (x : FVec Ideal S4096x1 .f32) : FVec Ideal S4096x1 .f32 :=
  minimumf (broadcastInDim S4096x1 ![] bcast_S_S4096x1 (id (constant S_ .f32 0x45800000#32))) (maximumf (broadcastInDim S4096x1 ![] bcast_S_S4096x1 (id (constant S_ .f32 0x3F800000#32))) x)

/-- The `k` column before the clip, from the head's first layer. -/
def kRaw (h : FVec Ideal S4096x512 .f32) (a7 : FVec Ideal S512x512 .f32) (a8 : FVec Ideal S512 .f32)
    (a9 : FVec Ideal S512x1 .f32) (a10 a11 : FVec Ideal S1 .f32) : FVec Ideal S4096x1 .f32 :=
  mulf (mulf (mulf (Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x512_S512x1_S4096x1_1_0_0_1_n_n none (maximumf (addf (Host.dotGeneral dot_S4096x512_S512x512_S4096x512_1_0_0_1_n_n none h a7) (broadcastInDim S4096x512 ![0, 1] bcast_S1x512_S4096x512_0_1 (broadcastInDim S1x512 ![1] bcast_S512_S1x512_1 a8))) (broadcastInDim S4096x512 ![] bcast_S_S4096x512 (constant S_ .f32 0x00000000#32))) a9) (broadcastInDim S4096x1 ![0, 1] bcast_S1x1_S4096x1_0_1 (broadcastInDim S1x1 ![1] bcast_S1_S1x1_1 a10))))))) (broadcastInDim S4096x1 ![] bcast_S_S4096x1 (constant S_ .f32 0x45800000#32))) (broadcastInDim S4096x1 ![0, 1] bcast_S1x1_S4096x1_0_1 (broadcastInDim S1x1 ![1] bcast_S1_S1x1_1 (Host.divf (broadcastInDim S1 ![] bcast_S_S1 (constant S_ .f32 0x3F800000#32)) (addf (broadcastInDim S1 ![] bcast_S_S1 (constant S_ .f32 0x3F800000#32)) (Host.exp (Host.negf a11))))))) (broadcastInDim S4096x1 ![] bcast_S_S4096x1 (constant S_ .f32 0x40000000#32))

/-- The ranks: the sort of the logits by falling value, then the sort of its positions. -/
def ranks (lg : FVec Ideal S4096x4096 .f32) : IVec S4096x4096 32 :=
  (Host.sort2 S4096x4096 1 comparator_i32_i32_d1 ((Host.sort2 S4096x4096 1 (comparator_f32_i32_d1 (F := Ideal)) (Host.negf lg) (iotaInDim S4096x4096 32 1)).2) (iotaInDim S4096x4096 32 1)).2

/-- The mask of the ranks below `k`. -/
def rankMask (kc : FVec Ideal S4096x1 .f32) : FVec Ideal S4096x4096 .f32 :=
  uitofp .f32 (cmpf .olt (broadcastInDim S4096x4096 ![0, 1] bcast_S1x4096_S4096x4096_0_1 (sitofp .f32 (broadcastInDim S1x4096 ![1] bcast_S4096_S1x4096_1 (iotaInDim S4096 32 0)))) (broadcastInDim S4096x4096 ![0, 1] bcast_S4096x1_S4096x4096_0_1 kc))

/-- The positions to read, a negative one taken from the end. -/
def wrapped (w : IVec S4096x4096 32) : IVec S4096x4096x1 32 :=
  shapeCast S4096x4096x1 (select (cmpi .slt w (broadcastInDim S4096x4096 ![] bcast_S_S4096x4096 (constantI S_ 32 0#32))) (addi w (broadcastInDim S4096x4096 ![] bcast_S_S4096x4096 (constantI S_ 32 4096#32))) w) shapeCasts_S4096x4096_S4096x4096x1

/-- A row's entries at given positions. -/
def takeAlong (mask : FVec Ideal S4096x4096 .f32) (w : IVec S4096x4096 32) : FVec Ideal S4096x4096 .f32 :=
  select (Host.reduce IntOp.andi (andi (cmpi .sge (wrapped w) (broadcastInDim S4096x4096x1 ![] bcast_S_S4096x4096x1 (constantI S_ 32 0#32))) (cmpi .sle (wrapped w) (broadcastInDim S4096x4096x1 ![0, 1, 2] bcast_S1x1x1_S4096x4096x1_0_1_2 (broadcastInDim S1x1x1 ![2] bcast_S1_S1x1x1_2 (constantI S1 32 4095#32))))) (constantI S_ 1 1#1) reducesTo_S4096x4096x1_S4096x4096_d2 h_S_) (Host.gather gather_S4096x4096_S4096x4096x1_S4096x4096_n_1_0_0_1_2_11 mask (wrapped w)) (broadcastInDim S4096x4096 ![] bcast_S_S4096x4096 (constant S_ .f32 0x7FC00000#32))

/-- The k-hot array. -/
def khot (lg : FVec Ideal S4096x4096 .f32) (k : FVec Ideal S4096x1 .f32) : FVec Ideal S4096x4096 .f32 :=
  takeAlong (rankMask (clip k)) (ranks lg)

/-- The reference's first result in these pieces. -/
theorem res_eq (m : (ℓ : Loc nD τ sig) → Buf (Elt Ideal) ℓ) (c : Dev nD) :
    Value.res_main_v55 (F := Ideal) m c
      = khot (logits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
          (clip (kRaw (hidden (m ((c.tc : Thread nD τ).loc main_arg0))
            (logits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
            (m ((c.tc : Thread nD τ).loc main_arg5)) (m ((c.tc : Thread nD τ).loc main_arg6))) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))) := by
  unfold Value.res_main_v55
  rfl

/-- The ranks at a position. -/
theorem ranks_apply (lg : FVec Ideal S4096x4096 .f32) (r j : Fin 4096) :
    ranks lg (ix2 r j) = BitVec.ofNat 32 (rank (fun k => (lg (ix2 r k) : EReal)) j) :=
  Sorting.ranks_apply (by norm_num) (comparator_f32_i32_d1 (F := Ideal)) (fun _ _ => rfl) comparator_i32_i32_d1 (fun _ _ => rfl) lg r j

/-- The mask at a position: whether the position lies below `k`. -/
theorem rankMask_apply (kc : FVec Ideal S4096x1 .f32) (r j : Fin 4096) :
    rankMask kc (ix2 r j) = if (((j.val : ℕ) : EReal) < kc (ix2 r 0)) then (1 : EReal) else 0 := by
  pointwise [rankMask]
  have hj : (FloatOps.sitofp (F := Ideal) FTy.f32 (BitVec.ofNat 32 j.val) : EReal) = ((j.val : ℕ) : EReal) := by
    show (((BitVec.ofNat 32 j.val).toInt : ℝ) : EReal) = _
    rw [Counts.toInt_ofNat _ (by have := j.isLt; omega), ← EReal.coe_natCast]
    norm_num
  rw [hj]
  show (((BitVec.ofBool (decide (((j.val : ℕ) : EReal) < kc (ix2 r 0)))).toNat : ℝ) : EReal) = _
  by_cases h : ((j.val : ℕ) : EReal) < kc (ix2 r 0)
  · rw [if_pos h, decide_eq_true h]
    show (((1 : ℕ) : ℝ) : EReal) = 1
    norm_num
  · rw [if_neg h, decide_eq_false h]
    show (((0 : ℕ) : ℝ) : EReal) = 0
    norm_num

/-- A position already in range is read as it is. -/
theorem wrap_word (p : Fin 4096) :
    Scalar.select (IntOp.cmpi CmpIPredicate.slt (BitVec.ofNat 32 p.val) 0#32) (IntOp.addi (BitVec.ofNat 32 p.val) 4096#32)
      (BitVec.ofNat 32 p.val) = BitVec.ofNat 32 p.val := by
  have h : ¬ IntOp.cmpi CmpIPredicate.slt (BitVec.ofNat 32 p.val) 0#32 = 1#1 := by
    rw [Counts.slt_eq_one, Counts.toInt_ofNat _ (by have := p.isLt; omega)]
    show ¬ ((p.val : ℤ) < 0)
    omega
  change (if IntOp.cmpi CmpIPredicate.slt (BitVec.ofNat 32 p.val) 0#32 = 1#1 then _ else _) = _
  exact if_neg h

/-- The entry read at a position in range. -/
theorem takeAlong_apply (mask : FVec Ideal S4096x4096 .f32) (w : IVec S4096x4096 32) (r j : Fin 4096) (p : Fin 4096)
    (hw : w (ix2 r j) = BitVec.ofNat 32 p.val) : takeAlong mask w (ix2 r j) = mask (ix2 r p) := by
  have hp : (BitVec.ofNat 32 p.val).toInt = p.val := Counts.toInt_ofNat _ (by have := p.isLt; omega)
  have hread : wrapped w (ix3 r j 0) = BitVec.ofNat 32 p.val := by
    pointwise [wrapped]
    rw [hw]; exact wrap_word p
  have hgather : Host.gather gather_S4096x4096_S4096x4096x1_S4096x4096_n_1_0_0_1_2_11 mask (wrapped w) (ix2 r j)
      = mask (ix2 r p) :=
    Gather.colDims_apply _ mask (wrapped w) r j p ((congrArg BitVec.toInt hread).trans hp)
  unfold takeAlong
  generalize hG : Host.gather gather_S4096x4096_S4096x4096x1_S4096x4096_n_1_0_0_1_2_11 mask (wrapped w) = G at hgather ⊢
  pointwise [wrapped]
  rw [hw, wrap_word p, hgather]
  have hin : IntOp.andi (IntOp.cmpi CmpIPredicate.sge (BitVec.ofNat 32 p.val) 0#32)
      (IntOp.cmpi CmpIPredicate.sle (BitVec.ofNat 32 p.val) 4095#32) = 1#1 := by
    rw [Counts.andi_eq_one, Counts.sge_eq_one, Counts.sle_eq_one, hp]
    have := p.isLt
    exact ⟨show (0 : ℤ) ≤ p.val by omega, show (p.val : ℤ) ≤ 4095 by omega⟩
  rw [hin]
  have hall : (Finset.univ : Finset (Fin 1)).fold IntOp.andi (1#1) (fun _ => 1#1) = 1#1 := by decide
  change (if (Finset.univ : Finset (Fin 1)).fold IntOp.andi (1#1) (fun _ => 1#1) = 1#1 then _ else _) = _
  rw [if_pos hall]

/-- The k-hot array at a position: whether the number of entries of the row ahead of this one lies below `k`. -/
theorem khot_apply (lg : FVec Ideal S4096x4096 .f32) (k : FVec Ideal S4096x1 .f32) (r j : Fin 4096) :
    khot lg k (ix2 r j)
      = if (((rank (fun i => (lg (ix2 r i) : EReal)) j : ℕ) : EReal) < clip k (ix2 r 0)) then (1 : EReal) else 0 := by
  have h := takeAlong_apply (rankMask (clip k)) (ranks lg) r j ⟨rank (fun i => (lg (ix2 r i) : EReal)) j, rank_lt_n _ _⟩
    (ranks_apply lg r j)
  exact h.trans (rankMask_apply (clip k) r _)

end Cert.RefTerms

end
-- ==== Proof.Bisect.lean ====
/-
  Two searches by halving over 32-bit words. The first keeps the greatest word where a falling predicate holds, over a
  range so wide that the midpoint is taken without the sum of the ends; the second keeps the least word where a rising
  predicate holds, over a range starting at zero.
-/
module

public import Mathlib.Tactic.NormNum
public import Mathlib.Tactic.Ring
public import Mathlib.Data.List.FinRange

@[expose] public section

noncomputable section

namespace Cert.Bisect

/-- A quantity that every pass brings from `e + 1` to `e` is at `e` after as many passes. -/
theorem foldl_countdown {σ α : Type*} (Inv : σ → ℕ → Prop) (step : α → σ → σ)
    (h : ∀ k s e, Inv s (e + 1) → Inv (step k s) e) (l : List α) :
    ∀ (s : σ) (e : ℕ), Inv s (l.length + e) → Inv (l.foldl (fun acc k => step k acc) s) e := by
  induction l with
  | nil => intro s e hs; simpa using hs
  | cons k l ih =>
    intro s e hs
    rw [List.foldl_cons]
    apply ih
    apply h
    rw [List.length_cons] at hs
    rwa [show l.length + e + 1 = l.length + 1 + e by omega]

/-- The lowest bit of a word is its remainder by two. -/
theorem getLsbD_zero (x : BitVec 32) : x.toInt % 2 = if x.getLsbD 0 then 1 else 0 := by
  have h : x.toInt = if 2 * x.toNat < 2 ^ 32 then (x.toNat : ℤ) else (x.toNat : ℤ) - (2 ^ 32 : ℕ) := BitVec.toInt_eq_toNat_cond x
  have hb : x.getLsbD 0 = decide (x.toNat % 2 = 1) := by
    rw [BitVec.getLsbD, Nat.testBit_zero]
  rw [hb]
  norm_num at h
  by_cases hp : x.toNat % 2 = 1
  · simp only [hp, decide_true, if_true]; split at h <;> omega
  · simp only [hp, decide_false]; split at h <;> simp <;> omega

/-- A word's lowest bit as a word. -/
theorem toInt_and_one (x : BitVec 32) : (x &&& 1#32).toInt = if x.getLsbD 0 then 1 else 0 := by
  rw [BitVec.and_one_eq_setWidth_ofBool_getLsbD]
  cases x.getLsbD 0 <;> rfl

/-- Half a word, rounded down. -/
theorem toInt_half (x : BitVec 32) : (x.sshiftRight 1).toInt = x.toInt / 2 := by
  rw [BitVec.toInt_sshiftRight, Int.shiftRight_eq_div_pow]; norm_num

/-- The midpoint of two words, rounded up, without their sum: the halves, the bit both share, the bit one has. -/
def midKey (lo hi : BitVec 32) : BitVec 32 :=
  lo.sshiftRight 1 + hi.sshiftRight 1 + (lo &&& hi &&& 1#32) + ((lo ^^^ hi) &&& 1#32)

/-- The sum of two words of moderate size is the sum. -/
theorem toInt_add_of (x y : BitVec 32) (hl : -2147483648 ≤ x.toInt + y.toInt) (hu : x.toInt + y.toInt < 2147483648) :
    (x + y).toInt = x.toInt + y.toInt := by
  rw [BitVec.toInt_add, Int.bmod_eq_of_le (by norm_num; omega) (by norm_num; omega)]

/-- So too the difference. -/
theorem toInt_sub_of (x y : BitVec 32) (hl : -2147483648 ≤ x.toInt - y.toInt) (hu : x.toInt - y.toInt < 2147483648) :
    (x - y).toInt = x.toInt - y.toInt := by
  rw [BitVec.toInt_sub, Int.bmod_eq_of_le (by norm_num; omega) (by norm_num; omega)]

/-- That midpoint as a number. -/
theorem toInt_midKey (lo hi : BitVec 32) (hl : -2139095040 ≤ lo.toInt) (hlu : lo.toInt ≤ 2139095040)
    (hh : -2139095040 ≤ hi.toInt) (hhu : hi.toInt ≤ 2139095040) : (midKey lo hi).toInt = (lo.toInt + hi.toInt + 1) / 2 := by
  have h1 := toInt_half lo
  have h2 := toInt_half hi
  have h3 := toInt_and_one (lo &&& hi)
  have h4 := toInt_and_one (lo ^^^ hi)
  have hL := getLsbD_zero lo
  have hH := getLsbD_zero hi
  rw [BitVec.getLsbD_and] at h3
  rw [BitVec.getLsbD_xor] at h4
  have b3 : 0 ≤ (lo &&& hi &&& 1#32).toInt ∧ (lo &&& hi &&& 1#32).toInt ≤ 1 := by rw [h3]; split <;> omega
  have b4 : 0 ≤ ((lo ^^^ hi) &&& 1#32).toInt ∧ ((lo ^^^ hi) &&& 1#32).toInt ≤ 1 := by rw [h4]; split <;> omega
  have s1 := toInt_add_of (lo.sshiftRight 1) (hi.sshiftRight 1) (by omega) (by omega)
  have s2 := toInt_add_of (lo.sshiftRight 1 + hi.sshiftRight 1) (lo &&& hi &&& 1#32) (by omega) (by omega)
  have s3 := toInt_add_of (lo.sshiftRight 1 + hi.sshiftRight 1 + (lo &&& hi &&& 1#32)) ((lo ^^^ hi) &&& 1#32) (by omega) (by omega)
  unfold midKey
  rw [s3, s2, s1, h1, h2, h3, h4]
  cases hlb : lo.getLsbD 0 <;> cases hhb : hi.getLsbD 0 <;> rw [hlb] at hL <;> rw [hhb] at hH <;> simp at * <;> omega

/-- Where the first search stands with `e` halvings to go: the predicate holds at the lower end and nowhere above the
    upper one, and the ends are less than `2^e` apart. -/
structure KeyInv (P : ℤ → Prop) (lo hi : BitVec 32) (e : ℕ) : Prop where
  lower : -2139095040 ≤ lo.toInt
  upper : hi.toInt ≤ 2139095040
  le : lo.toInt ≤ hi.toInt
  gap : hi.toInt - lo.toInt < 2 ^ e
  holds : P lo.toInt
  above : ∀ z, hi.toInt < z → z ≤ 2139095040 → ¬P z

/-- One pass of the first search. -/
theorem KeyInv.step {P : ℤ → Prop} (hP : ∀ a b, -2139095040 ≤ a → a ≤ b → b ≤ 2139095040 → P b → P a) {lo hi : BitVec 32} {e : ℕ}
    (h : KeyInv P lo hi (e + 1)) (c : Prop) [Decidable c] (hc : c ↔ P (midKey lo hi).toInt) :
    KeyInv P (if c then midKey lo hi else lo) (if c then hi else midKey lo hi - 1#32) e := by
  obtain ⟨h1, h2, h3, h4, h5, h6⟩ := h
  have hm := toInt_midKey lo hi h1 (by omega) (by omega) h2
  rw [pow_succ] at h4
  by_cases hcc : c
  · rw [if_pos hcc, if_pos hcc]
    exact ⟨by omega, by omega, by omega, by omega, hc.mp hcc, h6⟩
  · rw [if_neg hcc, if_neg hcc]
    have hn : ¬P (midKey lo hi).toInt := fun hp => hcc (hc.mpr hp)
    have hne : (midKey lo hi).toInt ≠ lo.toInt := fun he => hn (he ▸ h5)
    have hs : (midKey lo hi - 1#32).toInt = (midKey lo hi).toInt - 1 := by
      have h1' : (1#32 : BitVec 32).toInt = 1 := by decide
      rw [toInt_sub_of _ _ (by omega) (by omega), h1']
    refine ⟨h1, by omega, by omega, by omega, h5, ?_⟩
    intro z hz hzu hpz
    exact hn (hP _ _ (by omega) (by omega) hzu hpz)

/-- At the end of the first search the lower end is the greatest word where the predicate holds. -/
theorem KeyInv.greatest {P : ℤ → Prop} {lo hi : BitVec 32} (h : KeyInv P lo hi 0) :
    -2139095040 ≤ lo.toInt ∧ lo.toInt ≤ 2139095040 ∧ P lo.toInt ∧ ∀ z, lo.toInt < z → z ≤ 2139095040 → ¬P z := by
  obtain ⟨h1, h2, h3, h4, h5, h6⟩ := h
  have : hi.toInt = lo.toInt := by simp at h4; omega
  exact ⟨h1, by omega, h5, fun z hz => h6 z (by omega)⟩

/-- The midpoint of two positions, rounded down. -/
def midPos (lo hi : BitVec 32) : BitVec 32 := (lo + hi).sshiftRight 1

/-- Where the second search stands with `e` halvings to go: the predicate holds at the upper end and nowhere below the
    lower one, and the ends are less than `2^e` apart. -/
structure PosInv (Q : ℤ → Prop) (lo hi : BitVec 32) (e : ℕ) : Prop where
  lower : 0 ≤ lo.toInt
  upper : hi.toInt ≤ 4095
  le : lo.toInt ≤ hi.toInt
  gap : hi.toInt - lo.toInt < 2 ^ e
  holds : Q hi.toInt
  below : ∀ z, 0 ≤ z → z < lo.toInt → ¬Q z

/-- One pass of the second search. -/
theorem PosInv.step {Q : ℤ → Prop} (hQ : ∀ a b, 0 ≤ a → a ≤ b → b ≤ 4095 → Q a → Q b) {lo hi : BitVec 32} {e : ℕ}
    (h : PosInv Q lo hi (e + 1)) (c : Prop) [Decidable c] (hc : c ↔ Q (midPos lo hi).toInt) :
    PosInv Q (if c then lo else midPos lo hi + 1#32) (if c then midPos lo hi else hi) e := by
  obtain ⟨h1, h2, h3, h4, h5, h6⟩ := h
  have hm : (midPos lo hi).toInt = (lo.toInt + hi.toInt) / 2 := by
    unfold midPos; rw [toInt_half, toInt_add_of _ _ (by omega) (by omega)]
  rw [pow_succ] at h4
  by_cases hcc : c
  · rw [if_pos hcc, if_pos hcc]
    exact ⟨by omega, by omega, by omega, by omega, hc.mp hcc, h6⟩
  · rw [if_neg hcc, if_neg hcc]
    have hn : ¬Q (midPos lo hi).toInt := fun hp => hcc (hc.mpr hp)
    have hne : (midPos lo hi).toInt ≠ hi.toInt := fun he => hn (he ▸ h5)
    have hs : (midPos lo hi + 1#32).toInt = (midPos lo hi).toInt + 1 := by
      have h1' : (1#32 : BitVec 32).toInt = 1 := by decide
      rw [toInt_add_of _ _ (by omega) (by omega), h1']
    refine ⟨by omega, h2, by omega, by omega, h5, ?_⟩
    intro z hz hzu hpz
    exact hn (hQ _ _ hz (by omega) (by omega) hpz)

/-- At the end of the second search the lower end is the least position where the predicate holds. -/
theorem PosInv.least {Q : ℤ → Prop} {lo hi : BitVec 32} (h : PosInv Q lo hi 0) :
    0 ≤ lo.toInt ∧ lo.toInt ≤ 4095 ∧ Q lo.toInt ∧ ∀ z, 0 ≤ z → z < lo.toInt → ¬Q z := by
  obtain ⟨h1, h2, h3, h4, h5, h6⟩ := h
  have : hi.toInt = lo.toInt := by simp at h4; omega
  exact ⟨h1, by omega, this ▸ h5, h6⟩

end Cert.Bisect

end
-- ==== Proof.Cut.lean ====
/-
  The kernel's k-hot block at one row. Of the row's logits the key search finds the greatest float32 number with at least
  `K` logits at or above it, where `K` is the row's `k` rounded up; the tie search finds the last position whose ties are
  still kept. Where some float32 number separates the chosen logits from the others, or is the least chosen one, the row
  of the block is the indicator of the `K` greatest logits, ties by position.
-/
module

public import proofs.«01_k».proof.Proof.KernelIdealBody
public import proofs.«01_k».proof.Proof.TopK
public import proofs.«01_k».proof.Proof.Bisect
public import proofs.«01_k».proof.Proof.Counts

@[expose] public section

set_option maxRecDepth 16384

noncomputable section

namespace Cert.Cut

open Idealize.ShloMosaic Cert.KernelIdeal Cert.KernelIdealProof Cert.KernelIdeal.Gen Cert.TopK Cert.Bisect
open Cert.Float32Keys Cert.Counts
open scoped Classical

/-- Row `r` of a block. -/
def rowOf (v : FVec Ideal S256x4096 .f32) (r : Fin 256) : Fin 4096 → EReal := fun j => v (ix2 r j)

/-- A float32 number separates the chosen values of a row from the others, or is the least chosen one. -/
def Separated (L : Fin 4096 → EReal) (K : ℕ) (a : EReal) : Prop :=
  ∃ z : ℤ, -2139095040 ≤ z ∧ z ≤ 2139095040 ∧ keyVal z ≤ a ∧ (keyVal z = a ∨ ∀ j, ¬rank L j < K → L j < keyVal z)

section Row

variable (v14 : FVec Ideal S256x4096 .f32) (v29 : FVec Ideal S256x512 .f32) (v31 : FVec Ideal S1x512 .f32)
  (v38 : FVec Ideal S1x512 .f32) (v46 v53 : FVec Ideal S1x1 .f32) (r : Fin 256) (K : ℕ)

/-- The key at the middle of the interval, at a row. -/
theorem pay21_apply (lo hi : IVec S256x1 32) : k0_pay21 lo hi (ix2 r 0) = midKey (lo (ix2 r 0)) (hi (ix2 r 0)) := by
  pointwise [k0_pay21]
  rfl

/-- The test of the key search: at least `K` logits of the row are at or above the middle key's number. -/
theorem pay22_apply (hk : k0_pay17 v29 v31 v38 v46 v53 (ix2 r 0) = ((K : ℕ) : EReal)) (lo hi : IVec S256x1 32)
    (hl : -2139095040 ≤ (midKey (lo (ix2 r 0)) (hi (ix2 r 0))).toInt)
    (hu : (midKey (lo (ix2 r 0)) (hi (ix2 r 0))).toInt ≤ 2139095040) :
    k0_pay22 v14 v29 v31 v38 v46 v53 lo hi (ix2 r 0) = 1#1
      ↔ K ≤ (Finset.univ.filter fun j => keyVal (midKey (lo (ix2 r 0)) (hi (ix2 r 0))).toInt ≤ rowOf v14 r j).card := by
  pointwise [k0_pay22, k0_pay18]
  rw [hk, pay21_apply, ofBits_select _ hl hu, sum_bits _ _ (fun x => ofBool_decide _), ofBool_decide, count_le]
  rfl

/-- The predicate of the key search. -/
def KeyPred (L : Fin 4096 → EReal) (K : ℕ) (z : ℤ) : Prop := K ≤ (Finset.univ.filter fun j => keyVal z ≤ L j).card

/-- It falls as the key rises. -/
theorem keyPred_anti (L : Fin 4096 → EReal) (a b : ℤ) (ha : -2139095040 ≤ a) (hab : a ≤ b) (hb : b ≤ 2139095040)
    (h : KeyPred L K b) : KeyPred L K a := by
  refine le_trans h (Finset.card_le_card ?_)
  intro j hj
  simp only [Finset.mem_filter, Finset.mem_univ, true_and] at hj ⊢
  exact (keyVal_le ha hb hab).trans hj

/-- One pass of the key loop at a row. -/
theorem keyStep_inv (hk : k0_pay17 v29 v31 v38 v46 v53 (ix2 r 0) = ((K : ℕ) : EReal)) (k : Fin k0_t1_loop.trips)
    (s : IVec S256x1 32 × IVec S256x1 32) (e : ℕ)
    (h : KeyInv (KeyPred (rowOf v14 r) K) (s.1 (ix2 r 0)) (s.2 (ix2 r 0)) (e + 1)) :
    KeyInv (KeyPred (rowOf v14 r) K) ((keyStep v14 v29 v31 v38 v46 v53 k s).1 (ix2 r 0))
      ((keyStep v14 v29 v31 v38 v46 v53 k s).2 (ix2 r 0)) e := by
  have hm := toInt_midKey _ _ h.lower (h.le.trans h.upper) (h.lower.trans h.le) h.upper
  have hl := h.lower
  have hu := h.upper
  have hle := h.le
  have hc := pay22_apply v14 v29 v31 v38 v46 v53 r K hk s.1 s.2 (by omega) (by omega)
  have hs := h.step (keyPred_anti K (rowOf v14 r)) _ hc
  have e1 : (keyStep v14 v29 v31 v38 v46 v53 k s).1 (ix2 r 0)
      = if k0_pay22 v14 v29 v31 v38 v46 v53 s.1 s.2 (ix2 r 0) = 1#1 then midKey (s.1 (ix2 r 0)) (s.2 (ix2 r 0)) else s.1 (ix2 r 0) := by
    show k0_pay23 v14 v29 v31 v38 v46 v53 s.1 s.2 (ix2 r 0) = _
    rw [← pay21_apply]; rfl
  have e2 : (keyStep v14 v29 v31 v38 v46 v53 k s).2 (ix2 r 0)
      = if k0_pay22 v14 v29 v31 v38 v46 v53 s.1 s.2 (ix2 r 0) = 1#1 then s.2 (ix2 r 0) else midKey (s.1 (ix2 r 0)) (s.2 (ix2 r 0)) - 1#32 := by
    show k0_pay24 v14 v29 v31 v38 v46 v53 s.1 s.2 (ix2 r 0) = _
    rw [← pay21_apply]; rfl
  rw [e1, e2]
  exact hs

/-- The key that the loop ends on. -/
def keyAt : BitVec 32 := (keys v14 v29 v31 v38 v46 v53).1 (ix2 r 0)

/-- It is the greatest key with at least `K` logits at or above its number. -/
theorem keyAt_greatest (hK : K ≤ 4096) (hk : k0_pay17 v29 v31 v38 v46 v53 (ix2 r 0) = ((K : ℕ) : EReal)) :
    -2139095040 ≤ (keyAt v14 v29 v31 v38 v46 v53 r).toInt ∧ (keyAt v14 v29 v31 v38 v46 v53 r).toInt ≤ 2139095040
      ∧ KeyPred (rowOf v14 r) K (keyAt v14 v29 v31 v38 v46 v53 r).toInt
      ∧ ∀ z, (keyAt v14 v29 v31 v38 v46 v53 r).toInt < z → z ≤ 2139095040 → ¬KeyPred (rowOf v14 r) K z := by
  have hlo : (2155872256#32 : BitVec 32).toInt = -2139095040 := by decide
  have hhi : (2139095040#32 : BitVec 32).toInt = 2139095040 := by decide
  have h0 : KeyInv (KeyPred (rowOf v14 r) K) (2155872256#32) (2139095040#32) 32 := by
    refine ⟨by omega, by omega, by omega, by omega, ?_, fun z hz hz' => by omega⟩
    rw [hlo]
    unfold KeyPred
    rw [keyVal_bot, Finset.filter_true_of_mem (fun _ _ => bot_le), Finset.card_univ, Fintype.card_fin]
    exact hK
  have hlen : (List.finRange k0_t1_loop.trips).length = 32 := by rw [List.length_finRange]; rfl
  have hf := foldl_countdown
    (fun (s : IVec S256x1 32 × IVec S256x1 32) e => KeyInv (KeyPred (rowOf v14 r) K) (s.1 (ix2 r 0)) (s.2 (ix2 r 0)) e)
    (keyStep v14 v29 v31 v38 v46 v53) (fun k s e h => keyStep_inv v14 v29 v31 v38 v46 v53 r K hk k s e h)
    (List.finRange k0_t1_loop.trips) (k0_pay19, k0_pay20) 0 (by rw [hlen]; exact h0)
  rw [← Scf.fold_eq] at hf
  exact hf.greatest

variable (key : IVec S256x1 32) (t : EReal)

/-- The row's logits above the number `t` of its key. -/
theorem pay2_apply (hl : -2139095040 ≤ (key (ix2 r 0)).toInt) (hu : (key (ix2 r 0)).toInt ≤ 2139095040)
    (ht : keyVal (key (ix2 r 0)).toInt = t) (j : Fin 4096) :
    k0_pay2 (F := Ideal) v14 key (ix2 r j) = 1#1 ↔ t < rowOf v14 r j := by
  pointwise [k0_pay2, k0_pay1]
  rw [ofBits_select _ hl hu, ofBool_decide, ht]
  rfl

/-- The row's logits at that number. -/
theorem pay3_apply (hl : -2139095040 ≤ (key (ix2 r 0)).toInt) (hu : (key (ix2 r 0)).toInt ≤ 2139095040)
    (ht : keyVal (key (ix2 r 0)).toInt = t) (j : Fin 4096) :
    k0_pay3 (F := Ideal) v14 key (ix2 r j) = 1#1 ↔ rowOf v14 r j = t := by
  pointwise [k0_pay3, k0_pay1]
  rw [ofBits_select _ hl hu, ofBool_decide, ht]
  rfl

variable (v65 : FVec Ideal S256x1 .f32)

/-- How many ties are still wanted. -/
theorem pay4_apply (hk : v65 (ix2 r 0) = ((K : ℕ) : EReal))
    (hl : -2139095040 ≤ (key (ix2 r 0)).toInt) (hu : (key (ix2 r 0)).toInt ≤ 2139095040)
    (ht : keyVal (key (ix2 r 0)).toInt = t) :
    k0_pay4 (F := Ideal) v14 v65 k0_pay18 key (ix2 r 0)
      = ((K : ℕ) : EReal) - (((Finset.univ.filter fun j => t < rowOf v14 r j).card : ℕ) : EReal) := by
  pointwise [k0_pay4, k0_pay18]
  rw [hk, sum_bits _ _ (fun x => pay2_apply v14 r key t hl hu ht x)]

/-- The predicate of the tie search: up to position `z` stand at least as many ties as are still wanted. -/
def TiePred (L : Fin 4096 → EReal) (K : ℕ) (t : EReal) (z : ℤ) : Prop :=
  K ≤ (Finset.univ.filter fun j => L j = t ∧ ((j.val : ℕ) : ℤ) ≤ z).card + (Finset.univ.filter fun j => t < L j).card

/-- It rises with the position. -/
theorem tiePred_mono (L : Fin 4096 → EReal) (a b : ℤ) (hab : a ≤ b) (h : TiePred L K t a) : TiePred L K t b := by
  refine le_trans h (Nat.add_le_add_right (Finset.card_le_card ?_) _)
  intro j hj
  simp only [Finset.mem_filter, Finset.mem_univ, true_and] at hj ⊢
  exact ⟨hj.1, hj.2.trans hab⟩

/-- The position at the middle of the interval, at a row. -/
theorem pay8_apply (lo hi : IVec S256x1 32) : k0_pay8 lo hi (ix2 r 0) = midPos (lo (ix2 r 0)) (hi (ix2 r 0)) := by
  pointwise [k0_pay8]
  rfl

/-- The test of the tie search. -/
theorem pay9_apply (hk : v65 (ix2 r 0) = ((K : ℕ) : EReal))
    (hl : -2139095040 ≤ (key (ix2 r 0)).toInt) (hu : (key (ix2 r 0)).toInt ≤ 2139095040)
    (ht : keyVal (key (ix2 r 0)).toInt = t) (lo hi : IVec S256x1 32) :
    k0_pay9 (F := Ideal) v14 v65 k0_pay18 key lo hi (ix2 r 0) = 1#1
      ↔ TiePred (rowOf v14 r) K t (midPos (lo (ix2 r 0)) (hi (ix2 r 0))).toInt := by
  have h4 := pay4_apply v14 r K key t v65 hk hl hu ht
  have hb : ∀ x : Fin 4096, IntOp.andi (k0_pay3 (F := Ideal) v14 key (ix2 r x))
      (IntOp.cmpi .sle (BitVec.ofNat 32 x.val) (midPos (lo (ix2 r 0)) (hi (ix2 r 0)))) = 1#1
      ↔ (rowOf v14 r x = t ∧ ((x.val : ℕ) : ℤ) ≤ (midPos (lo (ix2 r 0)) (hi (ix2 r 0))).toInt) := by
    intro x
    rw [andi_eq_one, sle_eq_one, pay3_apply v14 r key t hl hu ht x, toInt_ofNat _ (by have := x.isLt; omega)]
  unfold k0_pay9
  generalize hp : k0_pay4 (F := Ideal) v14 v65 k0_pay18 key = p4 at h4 ⊢
  pointwise [k0_pay18]
  rw [h4, pay8_apply, sum_bits _ _ hb, ofBool_decide, sub_le_count]
  rfl

/-- One pass of the tie loop at a row. -/
theorem tieStep_inv (hk : v65 (ix2 r 0) = ((K : ℕ) : EReal))
    (hl : -2139095040 ≤ (key (ix2 r 0)).toInt) (hu : (key (ix2 r 0)).toInt ≤ 2139095040)
    (ht : keyVal (key (ix2 r 0)).toInt = t) (k : Fin k0_t2_loop.trips) (s : IVec S256x1 32 × IVec S256x1 32) (e : ℕ)
    (h : PosInv (TiePred (rowOf v14 r) K t) (s.1 (ix2 r 0)) (s.2 (ix2 r 0)) (e + 1)) :
    PosInv (TiePred (rowOf v14 r) K t) ((tieStep v14 v65 k0_pay18 key k s).1 (ix2 r 0))
      ((tieStep v14 v65 k0_pay18 key k s).2 (ix2 r 0)) e := by
  have hc := pay9_apply v14 r K key t v65 hk hl hu ht s.1 s.2
  have hs := h.step (fun a b _ hab _ => tiePred_mono K t (rowOf v14 r) a b hab) _ hc
  have e1 : (tieStep v14 v65 k0_pay18 key k s).1 (ix2 r 0)
      = if k0_pay9 (F := Ideal) v14 v65 k0_pay18 key s.1 s.2 (ix2 r 0) = 1#1 then s.1 (ix2 r 0) else midPos (s.1 (ix2 r 0)) (s.2 (ix2 r 0)) + 1#32 := by
    show k0_pay10 (F := Ideal) v14 v65 k0_pay18 key s.1 s.2 (ix2 r 0) = _
    rw [← pay8_apply]; rfl
  have e2 : (tieStep v14 v65 k0_pay18 key k s).2 (ix2 r 0)
      = if k0_pay9 (F := Ideal) v14 v65 k0_pay18 key s.1 s.2 (ix2 r 0) = 1#1 then midPos (s.1 (ix2 r 0)) (s.2 (ix2 r 0)) else s.2 (ix2 r 0) := by
    show k0_pay11 (F := Ideal) v14 v65 k0_pay18 key s.1 s.2 (ix2 r 0) = _
    rw [← pay8_apply]; rfl
  rw [e1, e2]
  exact hs

/-- Where the branch finds no tie to break, every row has exactly as many ties as are still wanted. -/
theorem noTies_row (hk : v65 (ix2 r 0) = ((K : ℕ) : EReal))
    (hl : -2139095040 ≤ (key (ix2 r 0)).toInt) (hu : (key (ix2 r 0)).toInt ≤ 2139095040)
    (ht : keyVal (key (ix2 r 0)).toInt = t) (h : noTies (F := Ideal) v14 v65 k0_pay18 key = 1#1) :
    (Finset.univ.filter fun j => rowOf v14 r j = t).card + (Finset.univ.filter fun j => t < rowOf v14 r j).card = K := by
  have h4 := pay4_apply v14 r K key t v65 hk hl hu ht
  have hpos : (0 : EReal) < k0_pay6 (F := Ideal) v14 v65 k0_pay18 key := by
    have hb : ∀ b : BitVec 1, Scalar.cmpi .ne (Scalar.extui b : BitVec 32) 0#32 = 1#1 → b = 1#1 := by decide
    have h' := hb _ h
    revert h'
    generalize k0_pay6 (F := Ideal) v14 v65 k0_pay18 key = z
    intro h'
    have h'' : BitVec.ofBool (decide (Ideal.ofBits FTy.f32 0x00000000#32 < z)) = 1#1 := h'
    clear h'
    rename' h'' => h'
    rw [ofBool_decide] at h'
    simpa using h'
  revert hpos
  unfold k0_pay6
  generalize hp : k0_pay4 (F := Ideal) v14 v65 k0_pay18 key = p4 at h4 ⊢
  pointwise [k0_pay18]
  intro hpos
  rw [Finset.lt_fold_min] at hpos
  have hr := hpos.2 (r, 0) (Finset.mem_univ _)
  by_contra hne
  rw [if_neg] at hr
  · exact absurd hr (lt_irrefl _)
  · show ¬(∑ x_1 : Fin 4096, FloatOps.sitofp (F := Ideal) FTy.f32 (BitVec.setWidth 32 (k0_pay3 (F := Ideal) v14 key (ix2 r x_1))) = p4 (ix2 r 0))
    rw [h4, sum_bits _ _ (fun x => pay3_apply v14 r key t hl hu ht x), count_eq_sub]
    exact hne

/-- The last position whose ties are kept does as it should: see `IsCut.chosen_iff`. -/
theorem lastTie_row (hk : v65 (ix2 r 0) = ((K : ℕ) : EReal))
    (hl : -2139095040 ≤ (key (ix2 r 0)).toInt) (hu : (key (ix2 r 0)).toInt ≤ 2139095040)
    (ht : keyVal (key (ix2 r 0)).toInt = t)
    (hK : K ≤ (Finset.univ.filter fun j => t ≤ rowOf v14 r j).card) :
    ∃ s : ℕ, (lastTie (F := Ideal) v14 v65 k0_pay18 key (ix2 r 0)).toInt = s ∧
      (((Finset.univ.filter fun j => rowOf v14 r j = t).card + (Finset.univ.filter fun j => t < rowOf v14 r j).card = K ∧ 4096 ≤ s + 1)
      ∨ (K ≤ (Finset.univ.filter fun j => rowOf v14 r j = t ∧ j.val ≤ s).card + (Finset.univ.filter fun j => t < rowOf v14 r j).card
          ∧ ∀ s' < s, (Finset.univ.filter fun j => rowOf v14 r j = t ∧ j.val ≤ s').card
              + (Finset.univ.filter fun j => t < rowOf v14 r j).card < K)) := by
  have h4095 : (4095#32 : BitVec 32).toInt = 4095 := by decide
  have h0i : (0#32 : BitVec 32).toInt = 0 := by decide
  unfold lastTie
  by_cases h : noTies (F := Ideal) v14 v65 k0_pay18 key = 1#1
  · rw [if_pos h]
    exact ⟨4095, h4095, Or.inl ⟨noTies_row v14 r K key t v65 hk hl hu ht h, le_refl _⟩⟩
  · rw [if_neg h]
    have h0 : PosInv (TiePred (rowOf v14 r) K t) (0#32) (4095#32) 12 := by
      refine ⟨by omega, by omega, by omega, by omega, ?_, fun z hz hz' => by omega⟩
      rw [h4095]
      unfold TiePred
      have hall : (Finset.univ.filter fun j => rowOf v14 r j = t ∧ ((j.val : ℕ) : ℤ) ≤ 4095)
          = Finset.univ.filter fun j => rowOf v14 r j = t := by
        apply Finset.filter_congr
        intro j _
        have := j.isLt
        constructor
        · exact fun hj => hj.1
        · exact fun hj => ⟨hj, by omega⟩
      rw [hall, Nat.add_comm, count_gt_add_count_eq]
      exact hK
    have hlen : (List.finRange k0_t2_loop.trips).length = 12 := by rw [List.length_finRange]; rfl
    have hf := foldl_countdown
      (fun (s : IVec S256x1 32 × IVec S256x1 32) e => PosInv (TiePred (rowOf v14 r) K t) (s.1 (ix2 r 0)) (s.2 (ix2 r 0)) e)
      (tieStep v14 v65 k0_pay18 key) (fun k s e h => tieStep_inv v14 r K key t v65 hk hl hu ht k s e h)
      (List.finRange k0_t2_loop.trips) (k0_pay7, k0_pay5) 0 (by rw [hlen]; exact h0)
    rw [← Scf.fold_eq] at hf
    obtain ⟨hs0, hs1, hs2, hs3⟩ := hf.least
    set x := ((Scf.fold (tieStep v14 v65 k0_pay18 key) (k0_pay7, k0_pay5)).1 (ix2 r 0)).toInt with hx
    refine ⟨x.toNat, (Int.toNat_of_nonneg hs0).symm, Or.inr ⟨?_, ?_⟩⟩
    · rw [← Int.toNat_of_nonneg hs0] at hs2
      unfold TiePred at hs2
      simpa only [Nat.cast_le] using hs2
    · intro s' hs'
      have := hs3 s' (by omega) (by omega)
      unfold TiePred at this
      simpa only [Nat.cast_le, not_le] using this

end Row

/-- THE K-HOT BLOCK AT A ROW: the indicator of the `K` greatest logits of the row. -/
theorem khotOf_apply (v14 : FVec Ideal S256x4096 .f32) (v29 : FVec Ideal S256x512 .f32) (v31 : FVec Ideal S1x512 .f32)
    (v38 : FVec Ideal S1x512 .f32) (v46 v53 : FVec Ideal S1x1 .f32) (r : Fin 256) (K : ℕ) (hK : K ≤ 4096)
    (hk : k0_pay17 v29 v31 v38 v46 v53 (ix2 r 0) = ((K : ℕ) : EReal)) (a : EReal) (hcut : IsCut (rowOf v14 r) K a)
    (hsep : Separated (rowOf v14 r) K a) (j : Fin 4096) :
    khotOf v14 v29 v31 v38 v46 v53 (ix2 r j) = if rank (rowOf v14 r) j < K then (1 : EReal) else 0 := by
  obtain ⟨hl, hu, hp, hmax⟩ := keyAt_greatest v14 v29 v31 v38 v46 v53 r K hK hk
  set key : IVec S256x1 32 := (keys v14 v29 v31 v38 v46 v53).1 with hkey
  have hat : keyAt v14 v29 v31 v38 v46 v53 r = key (ix2 r 0) := rfl
  rw [hat] at hl hu hp hmax
  set t := keyVal (key (ix2 r 0)).toInt with ht
  have hta : t ≤ a := (hcut.count_ge_iff hK t).mp hp
  have hthr : t = a ∨ (t < a ∧ ∀ j, ¬rank (rowOf v14 r) j < K → rowOf v14 r j < t) := by
    obtain ⟨z, hz1, hz2, hza, hz⟩ := hsep
    have hzk : z ≤ (key (ix2 r 0)).toInt := by
      by_contra hc
      exact hmax z (by omega) hz2 ((hcut.count_ge_iff hK _).mpr hza)
    have hzt : keyVal z ≤ t := keyVal_le hz1 hu hzk
    rcases hz with hz | hz
    · exact Or.inl (le_antisymm hta (hz ▸ hzt))
    · rcases hta.lt_or_eq with h | h
      · exact Or.inr ⟨h, fun j hj => lt_of_lt_of_le (hz j hj) hzt⟩
      · exact Or.inl h
  obtain ⟨s, hs, hs'⟩ := lastTie_row v14 r K key t (k0_pay17 v29 v31 v38 v46 v53) hk hl hu ht.symm hp
  have hiff := hcut.chosen_iff t hthr s hs' j
  have hbit : IntOp.ori (k0_pay2 (F := Ideal) v14 key (ix2 r j)) (IntOp.andi (k0_pay3 (F := Ideal) v14 key (ix2 r j))
      (IntOp.cmpi .sle (BitVec.ofNat 32 j.val) (lastTie (F := Ideal) v14 (k0_pay17 v29 v31 v38 v46 v53) k0_pay18 key (ix2 r 0)))) = 1#1
      ↔ rank (rowOf v14 r) j < K := by
    rw [ori_eq_one, andi_eq_one, sle_eq_one, pay2_apply v14 r key t hl hu ht.symm j, pay3_apply v14 r key t hl hu ht.symm j,
      toInt_ofNat _ (by have := j.isLt; omega), hs, hiff, Nat.cast_le]
  unfold khotOf
  rw [← hkey]
  generalize lastTie (F := Ideal) v14 (k0_pay17 v29 v31 v38 v46 v53) k0_pay18 key = lt at hbit ⊢
  pointwise [k0_pay12]
  rw [sitofp_bit]
  by_cases h : rank (rowOf v14 r) j < K
  · rw [if_pos h, if_pos (hbit.mpr h)]
  · rw [if_neg h, if_neg (fun hc => h (hbit.mp hc))]

end Cert.Cut

end
-- ==== Proof.Consts.lean ====
/-
  The numbers that the programs' constant words denote.
-/
module

public import proofs.«01_k».proof.Proof.Float32Keys

@[expose] public section

set_option maxRecDepth 16384

noncomputable section

namespace Cert.Consts

open Idealize.ShloMosaic Cert.Float32Keys

/-- The words of the powers of two from `2^(-126)` on. -/
theorem ofBits_pow (w : BitVec 32) (i : ℕ) (h22 : 22 < i) (hi : i ≤ 253) (hw : w = BitVec.ofNat 32 ((i - 22) * 8388608)) :
    Ideal.ofBits FTy.f32 w = (((2 : ℝ) ^ i * (2 : ℝ) ^ (-149 : ℤ) : ℝ) : EReal) := by
  have h := ofBits_unit i hi
  rw [if_neg (by omega)] at h
  rw [hw]; exact h

/-- One half. -/
theorem half : Ideal.ofBits FTy.f32 1056964608#32 = (((1 / 2 : ℝ)) : EReal) := by
  rw [ofBits_pow _ 148 (by norm_num) (by norm_num) (by decide)]; norm_num

/-- Two. -/
theorem two : Ideal.ofBits FTy.f32 1073741824#32 = (((2 : ℝ)) : EReal) := by
  rw [ofBits_pow _ 150 (by norm_num) (by norm_num) (by decide)]; norm_num

/-- 4096. -/
theorem width : Ideal.ofBits FTy.f32 1166016512#32 = (((4096 : ℝ)) : EReal) := by
  rw [ofBits_pow _ 161 (by norm_num) (by norm_num) (by decide)]; norm_num

/-- The first integer past the significands. -/
theorem significands : Ideal.ofBits FTy.f32 1266679808#32 = (((16777216 : ℝ)) : EReal) := by
  rw [ofBits_pow _ 173 (by norm_num) (by norm_num) (by decide)]; norm_num

/-- Positive infinity. -/
theorem posInf : Ideal.ofBits FTy.f32 2139095040#32 = ⊤ := by
  have h := ofBits_key 2139095040#32 (by decide) (by decide)
  rw [if_pos (by decide)] at h
  rw [h]; exact keyVal_top

/-- Negative infinity. -/
theorem negInf : Ideal.ofBits FTy.f32 4286578688#32 = ⊥ := by
  have h := ofBits_key (-2139095040#32) (by decide) (by decide)
  rw [if_neg (by decide)] at h
  rw [show (4286578688#32 : BitVec 32) = 2147483648#32 - -2139095040#32 by decide, h]
  exact keyVal_bot

end Cert.Consts

end
-- ==== Proof.Head.lean ====
/-
  One block's logits and `k` column are the reference's, row by row.
-/
module

public import proofs.«01_k».proof.Proof.RefTerms
public import proofs.«01_k».proof.Proof.Cut
public import proofs.«01_k».proof.Proof.Consts
public import Idealize.ShloMosaic.Lib.IdealHost

@[expose] public section

set_option maxRecDepth 16384

noncomputable section

namespace Cert.Head

open Idealize.ShloMosaic Cert.KernelIdeal Cert.KernelIdeal.Gen

/-- What a block's inputs hold, of the arguments: `R r` is the row of the arguments that the block's row `r` is. -/
structure Inputs (R : Fin 256 → Fin 4096)
    (x0 : FVec Ideal S256x1024 .f32) (x1 : FVec Ideal S1024x512 .f32) (x2 : FVec Ideal S1x512 .f32)
    (x3 : FVec Ideal S512x4096 .f32) (x4 : FVec Ideal S1x4096 .f32) (x5 : FVec Ideal S1024x512 .f32)
    (x6 : FVec Ideal S4096x512 .f32) (x7 : FVec Ideal S1x512 .f32) (x8 : FVec Ideal S512x512 .f32)
    (x9 : FVec Ideal S1x512 .f32) (x10 : FVec Ideal S1x512 .f32) (x11 x12 : FVec Ideal S1x1 .f32)
    (a0 : FVec Ideal ReferenceIdeal.S4096x1024 .f32) (a1 : FVec Ideal ReferenceIdeal.S1024x512 .f32)
    (a2 : FVec Ideal ReferenceIdeal.S512 .f32) (a3 : FVec Ideal ReferenceIdeal.S512x4096 .f32)
    (a4 : FVec Ideal ReferenceIdeal.S4096 .f32) (a5 : FVec Ideal ReferenceIdeal.S5120x512 .f32)
    (a6 : FVec Ideal ReferenceIdeal.S512 .f32) (a7 : FVec Ideal ReferenceIdeal.S512x512 .f32)
    (a8 : FVec Ideal ReferenceIdeal.S512 .f32) (a9 : FVec Ideal ReferenceIdeal.S512x1 .f32)
    (a10 a11 : FVec Ideal ReferenceIdeal.S1 .f32) : Prop where
  rows : ∀ r c, x0 (ix2 r c) = a0 (ix2 (R r) c)
  w1 : ∀ i c, x1 (ix2 i c) = a1 (ix2 i c)
  b1 : ∀ c, x2 (ix2 0 c) = a2 (ix1 c)
  w2 : ∀ i c, x3 (ix2 i c) = a3 (ix2 i c)
  b2 : ∀ c, x4 (ix2 0 c) = a4 (ix1 c)
  k1a : ∀ (i : Fin 1024) (c : Fin 512), x5 (ix2 i c) = a5 (ix2 (⟨i.val, by have := i.isLt; omega⟩ : Fin 5120) c)
  k1b : ∀ (i : Fin 4096) (c : Fin 512), x6 (ix2 i c) = a5 (ix2 (⟨1024 + i.val, by have := i.isLt; omega⟩ : Fin 5120) c)
  kb1 : ∀ c, x7 (ix2 0 c) = a6 (ix1 c)
  kw2 : ∀ i c, x8 (ix2 i c) = a7 (ix2 i c)
  kb2 : ∀ c, x9 (ix2 0 c) = a8 (ix1 c)
  kw3 : ∀ i, x10 (ix2 0 i) = a9 (ix2 i 0)
  kb3 : x11 (ix2 0 0) = a10 (ix1 0)
  ks : x12 (ix2 0 0) = a11 (ix1 0)

section Block

variable {R : Fin 256 → Fin 4096}
    {x0 : FVec Ideal S256x1024 .f32} {x1 : FVec Ideal S1024x512 .f32} {x2 : FVec Ideal S1x512 .f32}
    {x3 : FVec Ideal S512x4096 .f32} {x4 : FVec Ideal S1x4096 .f32} {x5 : FVec Ideal S1024x512 .f32}
    {x6 : FVec Ideal S4096x512 .f32} {x7 : FVec Ideal S1x512 .f32} {x8 : FVec Ideal S512x512 .f32}
    {x9 : FVec Ideal S1x512 .f32} {x10 : FVec Ideal S1x512 .f32} {x11 x12 : FVec Ideal S1x1 .f32}
    {a0 : FVec Ideal ReferenceIdeal.S4096x1024 .f32} {a1 : FVec Ideal ReferenceIdeal.S1024x512 .f32}
    {a2 : FVec Ideal ReferenceIdeal.S512 .f32} {a3 : FVec Ideal ReferenceIdeal.S512x4096 .f32}
    {a4 : FVec Ideal ReferenceIdeal.S4096 .f32} {a5 : FVec Ideal ReferenceIdeal.S5120x512 .f32}
    {a6 : FVec Ideal ReferenceIdeal.S512 .f32} {a7 : FVec Ideal ReferenceIdeal.S512x512 .f32}
    {a8 : FVec Ideal ReferenceIdeal.S512 .f32} {a9 : FVec Ideal ReferenceIdeal.S512x1 .f32}
    {a10 a11 : FVec Ideal ReferenceIdeal.S1 .f32}
    (h : Inputs R x0 x1 x2 x3 x4 x5 x6 x7 x8 x9 x10 x11 x12 a0 a1 a2 a3 a4 a5 a6 a7 a8 a9 a10 a11)

include h

/-- A block's logits. -/
theorem logits_eq (r : Fin 256) (j : Fin 4096) :
    k0_pay13 x0 x1 x2 x3 x4 (ix2 r j) = RefTerms.logits a0 a1 a2 a3 a4 (ix2 (R r) j) := by
  pointwise [k0_pay13, RefTerms.logits]
  simp only [h.rows, h.w1, h.b1, h.w2, h.b2]

/-- A block's second product of the `k` head. -/
theorem second_eq (r : Fin 256) (c : Fin 512) :
    k0_pay14 x0 x1 x2 x3 x4 x5 x6 x7 x8 (ix2 r c) = ∑ i, RefTerms.hidden a0 (RefTerms.logits a0 a1 a2 a3 a4) a5 a6 (ix2 (R r) i) * a7 (ix2 i c) := by
  pointwise [k0_pay14, RefTerms.hidden]
  simp only [logits_eq h, h.rows, h.k1a, h.k1b, h.kb1, h.kw2]

/-- A block's `k`. -/
theorem k_eq (r : Fin 256) :
    k0_pay16 (k0_pay14 x0 x1 x2 x3 x4 x5 x6 x7 x8) (k0_pay15 x9) x10 x11 x12 (ix2 r 0)
      = RefTerms.clip (RefTerms.kRaw (RefTerms.hidden a0 (RefTerms.logits a0 a1 a2 a3 a4) a5 a6) a7 a8 a9 a10 a11) (ix2 (R r) 0) := by
  pointwise [k0_pay16, k0_pay15, RefTerms.clip, RefTerms.kRaw]
  have e1 : id (constant (F := Ideal) ReferenceIdeal.S_ FTy.f32 1166016512#32) ix0 = Ideal.ofBits FTy.f32 1166016512#32 := rfl
  have e2 : id (constant (F := Ideal) ReferenceIdeal.S_ FTy.f32 1065353216#32) ix0 = 1 := Ideal.ofBits_one_f32
  have e3 : ∀ y : EReal, Ideal.logistic y = Ideal.div 1 (1 + Ideal.exp (-y)) := fun _ => rfl
  rw [e1, e2]
  simp only [second_eq h, h.kb2, h.kw3, h.kb3, h.ks, e3, mul_assoc]

end Block

/-- A number clipped to `[1, 4096]` passes the same integers as its ceiling, which is one of `1 … 4096`. -/
theorem ceil_clip (y : EReal) (hy : y = min ((4096 : ℝ) : EReal) (max 1 y)) :
    ∃ K : ℕ, 1 ≤ K ∧ K ≤ 4096 ∧ Ideal.liftRound Int.ceil y = ((K : ℕ) : EReal) ∧ ∀ n : ℕ, ((n : ℕ) : EReal) < y ↔ n < K := by
  have hl : (1 : EReal) ≤ y := by
    rw [hy]; refine le_min ?_ (le_max_left _ _)
    rw [← EReal.coe_one, EReal.coe_le_coe_iff]; norm_num
  have hu : y ≤ ((4096 : ℝ) : EReal) := by rw [hy]; exact min_le_left _ _
  clear hy
  induction y with
  | bot => exact absurd (le_bot_iff.mp hl) (by rw [← EReal.coe_one]; exact EReal.coe_ne_bot 1)
  | top => exact absurd (top_le_iff.mp hu) (EReal.coe_ne_top _)
  | coe x =>
    rw [← EReal.coe_one, EReal.coe_le_coe_iff] at hl
    rw [EReal.coe_le_coe_iff] at hu
    have h1 : 1 ≤ ⌈x⌉ := by
      have : (0 : ℤ) < ⌈x⌉ := Int.ceil_pos.mpr (by linarith)
      omega
    have h2 : ⌈x⌉ ≤ 4096 := Int.ceil_le.mpr (by push_cast; exact hu)
    refine ⟨⌈x⌉.toNat, by omega, by omega, ?_, fun n => ?_⟩
    · have hz : ((⌈x⌉.toNat : ℕ) : ℤ) = ⌈x⌉ := Int.toNat_of_nonneg (by omega)
      rw [Ideal.liftRound_coe, ← EReal.coe_natCast, EReal.coe_eq_coe_iff]
      exact_mod_cast congrArg (Int.cast : ℤ → ℝ) hz.symm
    · rw [← EReal.coe_natCast, EReal.coe_lt_coe_iff]
      have : (n : ℝ) < x ↔ (n : ℤ) < ⌈x⌉ := by rw [Int.lt_ceil]; norm_num
      rw [this]; omega

/-- The clip's values, -/
theorem clip_apply (x : FVec Ideal ReferenceIdeal.S4096x1 .f32) (r : Fin 4096) :
    (RefTerms.clip x (ix2 r 0) : EReal) = min ((4096 : ℝ) : EReal) (max 1 (x (ix2 r 0))) := by
  pointwise [RefTerms.clip]
  have e1 : id (constant (F := Ideal) ReferenceIdeal.S_ FTy.f32 1166016512#32) ix0 = Ideal.ofBits FTy.f32 1166016512#32 := rfl
  have e2 : id (constant (F := Ideal) ReferenceIdeal.S_ FTy.f32 1065353216#32) ix0 = 1 := Ideal.ofBits_one_f32
  rw [e1, e2, Consts.width]

/-- which a second clip leaves as they are. -/
theorem clip_clip (x : FVec Ideal ReferenceIdeal.S4096x1 .f32) (r : Fin 4096) :
    (RefTerms.clip (RefTerms.clip x) (ix2 r 0) : EReal) = RefTerms.clip x (ix2 r 0) := by
  rw [clip_apply, clip_apply]
  have h1 : (1 : EReal) ≤ ((4096 : ℝ) : EReal) := by rw [← EReal.coe_one, EReal.coe_le_coe_iff]; norm_num
  have h2 : (1 : EReal) ≤ min ((4096 : ℝ) : EReal) (max 1 (x (ix2 r 0))) := le_min h1 (le_max_left _ _)
  rw [max_eq_right h2, min_eq_right (min_le_left _ _)]

/-- The block's count is the ceiling of its `k`. -/
theorem count_apply (v29 : FVec Ideal S256x512 .f32) (v31 v38 : FVec Ideal S1x512 .f32) (v46 v53 : FVec Ideal S1x1 .f32) (r : Fin 256) :
    k0_pay17 v29 v31 v38 v46 v53 (ix2 r 0) = Ideal.liftRound Int.ceil (k0_pay16 v29 v31 v38 v46 v53 (ix2 r 0)) := by
  unfold k0_pay17
  rfl

end Cert.Head

end
-- ==== Proof.Blocks.lean ====
/-
  What the pipeline's input blocks hold, of the arguments: 256 rows of the first argument at each grid point, and the
  weights and biases whole, some of them sliced or reshaped before the launch.
-/
module

public import proofs.«01_k».proof.Proof.KernelIdealRun
public import proofs.«01_k».proof.Proof.Head
public import Idealize.ShloMosaic.Lib.Pipeline.Value
public import Idealize.ShloMosaic.Lib.Pointwise

@[expose] public section

set_option maxRecDepth 16384

noncomputable section

namespace Cert.Blocks

open Idealize.ShloMosaic Idealize.ShloMosaic.TcCoe Cert.KernelIdeal Cert.KernelIdeal.Gen Cert.KernelIdealProof

/-- The row of the arrays that row `r` of point `t`'s block is. -/
def rowAt (t : Fin cfg0.N) (r : Fin 256) : Fin 4096 :=
  ⟨256 * t.val + r.val, by have := t.isLt; have e : cfg0.N = 16 := N_0; omega⟩

/-- Where the first argument's block sits at a point. -/
theorem index_0 (t : Fin cfg0.N) : win0_0.index t 0 * win0_0.size 0 = 256 * t.val ∧ win0_0.index t 1 = 0 := by
  rcases fin_N0 t with rfl | rfl | rfl | rfl | rfl | rfl | rfl | rfl | rfl | rfl | rfl | rfl | rfl | rfl | rfl | rfl <;> decide +kernel

section Entry

variable {F : FTy → Type} [FloatOps F]
variable (m : (ℓ : Loc nD τ sig) → Buf (Elt F) ℓ)

/-! ## The buffers filled before the launch -/

/-- Buffer 0 is a slice of argument 5. -/
theorem entry_0 (c : Dev nD) : V m c main_call0_v0
    = extractStridedSlice (s := S5120x512) S1024x512 ![0, 0] (m ((c : Thread nD τ).loc main_arg5)) slices_S5120x512_S1024x512_0_0 := by
  show StableHlo.after hostOps0 (fun b => m (c, b)) main_call0_v0 = _
  simp only [hostOps0, StableHlo.TRef.reshape, StableHlo.TRef.unary, StableHlo.TRef.toBuf, StableHlo.TRef.ofBuf, cast_eq]
  after_results_simp <;> rfl

/-- Buffer 1 is a slice of argument 5. -/
theorem entry_1 (c : Dev nD) : V m c main_call0_v1
    = extractStridedSlice (s := S5120x512) S4096x512 ![1024, 0] (m ((c : Thread nD τ).loc main_arg5)) slices_S5120x512_S4096x512_1024_0 := by
  show StableHlo.after hostOps0 (fun b => m (c, b)) main_call0_v1 = _
  simp only [hostOps0, StableHlo.TRef.reshape, StableHlo.TRef.unary, StableHlo.TRef.toBuf, StableHlo.TRef.ofBuf, cast_eq]
  after_results_simp <;> rfl

/-- Buffer 2 is a reshape of argument 2. -/
theorem entry_2 (c : Dev nD) : V m c main_call0_v2
    = shapeCast (s := S512) S1x512 (m ((c : Thread nD τ).loc main_arg2)) shapeCasts_S512_S1x512 := by
  show StableHlo.after hostOps0 (fun b => m (c, b)) main_call0_v2 = _
  simp only [hostOps0, StableHlo.TRef.reshape, StableHlo.TRef.unary, StableHlo.TRef.toBuf, StableHlo.TRef.ofBuf, cast_eq]
  after_results_simp <;> rfl

/-- Buffer 3 is a reshape of argument 4. -/
theorem entry_3 (c : Dev nD) : V m c main_call0_v3
    = shapeCast (s := S4096) S1x4096 (m ((c : Thread nD τ).loc main_arg4)) shapeCasts_S4096_S1x4096 := by
  show StableHlo.after hostOps0 (fun b => m (c, b)) main_call0_v3 = _
  simp only [hostOps0, StableHlo.TRef.reshape, StableHlo.TRef.unary, StableHlo.TRef.toBuf, StableHlo.TRef.ofBuf, cast_eq]
  after_results_simp <;> rfl

/-- Buffer 4 is a reshape of argument 6. -/
theorem entry_4 (c : Dev nD) : V m c main_call0_v4
    = shapeCast (s := S512) S1x512 (m ((c : Thread nD τ).loc main_arg6)) shapeCasts_S512_S1x512 := by
  show StableHlo.after hostOps0 (fun b => m (c, b)) main_call0_v4 = _
  simp only [hostOps0, StableHlo.TRef.reshape, StableHlo.TRef.unary, StableHlo.TRef.toBuf, StableHlo.TRef.ofBuf, cast_eq]
  after_results_simp <;> rfl

/-- Buffer 5 is a reshape of argument 8. -/
theorem entry_5 (c : Dev nD) : V m c main_call0_v5
    = shapeCast (s := S512) S1x512 (m ((c : Thread nD τ).loc main_arg8)) shapeCasts_S512_S1x512 := by
  show StableHlo.after hostOps0 (fun b => m (c, b)) main_call0_v5 = _
  simp only [hostOps0, StableHlo.TRef.reshape, StableHlo.TRef.unary, StableHlo.TRef.toBuf, StableHlo.TRef.ofBuf, cast_eq]
  after_results_simp <;> rfl

/-- Buffer 6 is a reshape of argument 9. -/
theorem entry_6 (c : Dev nD) : V m c main_call0_v6
    = shapeCast (s := S512x1) S1x512 (m ((c : Thread nD τ).loc main_arg9)) shapeCasts_S512x1_S1x512 := by
  show StableHlo.after hostOps0 (fun b => m (c, b)) main_call0_v6 = _
  simp only [hostOps0, StableHlo.TRef.reshape, StableHlo.TRef.unary, StableHlo.TRef.toBuf, StableHlo.TRef.ofBuf, cast_eq]
  after_results_simp <;> rfl

/-- Buffer 7 is a reshape of argument 10. -/
theorem entry_7 (c : Dev nD) : V m c main_call0_v7
    = shapeCast (s := S1) S1x1 (m ((c : Thread nD τ).loc main_arg10)) shapeCasts_S1_S1x1 := by
  show StableHlo.after hostOps0 (fun b => m (c, b)) main_call0_v7 = _
  simp only [hostOps0, StableHlo.TRef.reshape, StableHlo.TRef.unary, StableHlo.TRef.toBuf, StableHlo.TRef.ofBuf, cast_eq]
  after_results_simp <;> rfl

/-- Buffer 8 is a reshape of argument 11. -/
theorem entry_8 (c : Dev nD) : V m c main_call0_v8
    = shapeCast (s := S1) S1x1 (m ((c : Thread nD τ).loc main_arg11)) shapeCasts_S1_S1x1 := by
  show StableHlo.after hostOps0 (fun b => m (c, b)) main_call0_v8 = _
  simp only [hostOps0, StableHlo.TRef.reshape, StableHlo.TRef.unary, StableHlo.TRef.toBuf, StableHlo.TRef.ofBuf, cast_eq]
  after_results_simp <;> rfl

/-! ## The blocks read at an index -/

/-- The rows' block. -/
theorem iblk_0 (c : Dev nD) (t : Fin cfg0.N) (r : Fin 256) (k : Fin 1024) :
    iblk m c 0 t (ix2 r k) = m ((c : Thread nD τ).loc main_arg0) (ix2 (rowAt t r) k) := by
  rw [← V_main_arg0 m c]
  show V m c main_arg0 ((win0_0.rect t).emb (ix2 r k)) = _
  refine congrArg (V m c main_arg0) (funext fun a => Fin.ext ?_)
  match a with
  | ⟨0, _⟩ => rw [win0_0.rect_emb_val t _ _ rfl]; exact congrArg (· + r.val) (index_0 t).1
  | ⟨1, _⟩ => exact win0_0.rect_emb_val_of_index_zero t 1 (index_0 t).2 _

/-- Window 1's block is its whole array. -/
theorem iblk_1 (c : Dev nD) (t : Fin cfg0.N) (i : Fin 1024) (k : Fin 512) : iblk m c 1 t (ix2 i k) = V m c main_arg1 (ix2 i k) := by
  show V m c main_arg1 ((win0_1.rect t).emb (ix2 i k)) = _
  refine congrArg (V m c main_arg1) (funext fun a => Fin.ext ?_)
  exact win0_1.rect_emb_val_of_index_zero t a (by match a with | ⟨0, _⟩ => rfl | ⟨1, _⟩ => rfl) _

/-- Window 2's block is its whole array. -/
theorem iblk_2 (c : Dev nD) (t : Fin cfg0.N) (i : Fin 1) (k : Fin 512) : iblk m c 2 t (ix2 i k) = V m c main_call0_v2 (ix2 i k) := by
  show V m c main_call0_v2 ((win0_2.rect t).emb (ix2 i k)) = _
  refine congrArg (V m c main_call0_v2) (funext fun a => Fin.ext ?_)
  exact win0_2.rect_emb_val_of_index_zero t a (by match a with | ⟨0, _⟩ => rfl | ⟨1, _⟩ => rfl) _

/-- Window 3's block is its whole array. -/
theorem iblk_3 (c : Dev nD) (t : Fin cfg0.N) (i : Fin 512) (k : Fin 4096) : iblk m c 3 t (ix2 i k) = V m c main_arg3 (ix2 i k) := by
  show V m c main_arg3 ((win0_3.rect t).emb (ix2 i k)) = _
  refine congrArg (V m c main_arg3) (funext fun a => Fin.ext ?_)
  exact win0_3.rect_emb_val_of_index_zero t a (by match a with | ⟨0, _⟩ => rfl | ⟨1, _⟩ => rfl) _

/-- Window 4's block is its whole array. -/
theorem iblk_4 (c : Dev nD) (t : Fin cfg0.N) (i : Fin 1) (k : Fin 4096) : iblk m c 4 t (ix2 i k) = V m c main_call0_v3 (ix2 i k) := by
  show V m c main_call0_v3 ((win0_4.rect t).emb (ix2 i k)) = _
  refine congrArg (V m c main_call0_v3) (funext fun a => Fin.ext ?_)
  exact win0_4.rect_emb_val_of_index_zero t a (by match a with | ⟨0, _⟩ => rfl | ⟨1, _⟩ => rfl) _

/-- Window 5's block is its whole array. -/
theorem iblk_5 (c : Dev nD) (t : Fin cfg0.N) (i : Fin 1024) (k : Fin 512) : iblk m c 5 t (ix2 i k) = V m c main_call0_v0 (ix2 i k) := by
  show V m c main_call0_v0 ((win0_5.rect t).emb (ix2 i k)) = _
  refine congrArg (V m c main_call0_v0) (funext fun a => Fin.ext ?_)
  exact win0_5.rect_emb_val_of_index_zero t a (by match a with | ⟨0, _⟩ => rfl | ⟨1, _⟩ => rfl) _

/-- Window 6's block is its whole array. -/
theorem iblk_6 (c : Dev nD) (t : Fin cfg0.N) (i : Fin 4096) (k : Fin 512) : iblk m c 6 t (ix2 i k) = V m c main_call0_v1 (ix2 i k) := by
  show V m c main_call0_v1 ((win0_6.rect t).emb (ix2 i k)) = _
  refine congrArg (V m c main_call0_v1) (funext fun a => Fin.ext ?_)
  exact win0_6.rect_emb_val_of_index_zero t a (by match a with | ⟨0, _⟩ => rfl | ⟨1, _⟩ => rfl) _

/-- Window 7's block is its whole array. -/
theorem iblk_7 (c : Dev nD) (t : Fin cfg0.N) (i : Fin 1) (k : Fin 512) : iblk m c 7 t (ix2 i k) = V m c main_call0_v4 (ix2 i k) := by
  show V m c main_call0_v4 ((win0_7.rect t).emb (ix2 i k)) = _
  refine congrArg (V m c main_call0_v4) (funext fun a => Fin.ext ?_)
  exact win0_7.rect_emb_val_of_index_zero t a (by match a with | ⟨0, _⟩ => rfl | ⟨1, _⟩ => rfl) _

/-- Window 8's block is its whole array. -/
theorem iblk_8 (c : Dev nD) (t : Fin cfg0.N) (i : Fin 512) (k : Fin 512) : iblk m c 8 t (ix2 i k) = V m c main_arg7 (ix2 i k) := by
  show V m c main_arg7 ((win0_8.rect t).emb (ix2 i k)) = _
  refine congrArg (V m c main_arg7) (funext fun a => Fin.ext ?_)
  exact win0_8.rect_emb_val_of_index_zero t a (by match a with | ⟨0, _⟩ => rfl | ⟨1, _⟩ => rfl) _

/-- Window 9's block is its whole array. -/
theorem iblk_9 (c : Dev nD) (t : Fin cfg0.N) (i : Fin 1) (k : Fin 512) : iblk m c 9 t (ix2 i k) = V m c main_call0_v5 (ix2 i k) := by
  show V m c main_call0_v5 ((win0_9.rect t).emb (ix2 i k)) = _
  refine congrArg (V m c main_call0_v5) (funext fun a => Fin.ext ?_)
  exact win0_9.rect_emb_val_of_index_zero t a (by match a with | ⟨0, _⟩ => rfl | ⟨1, _⟩ => rfl) _

/-- Window 10's block is its whole array. -/
theorem iblk_10 (c : Dev nD) (t : Fin cfg0.N) (i : Fin 1) (k : Fin 512) : iblk m c 10 t (ix2 i k) = V m c main_call0_v6 (ix2 i k) := by
  show V m c main_call0_v6 ((win0_10.rect t).emb (ix2 i k)) = _
  refine congrArg (V m c main_call0_v6) (funext fun a => Fin.ext ?_)
  exact win0_10.rect_emb_val_of_index_zero t a (by match a with | ⟨0, _⟩ => rfl | ⟨1, _⟩ => rfl) _

/-- Window 11's block is its whole array. -/
theorem iblk_11 (c : Dev nD) (t : Fin cfg0.N) (i : Fin 1) (k : Fin 1) : iblk m c 11 t (ix2 i k) = V m c main_call0_v7 (ix2 i k) := by
  show V m c main_call0_v7 ((win0_11.rect t).emb (ix2 i k)) = _
  refine congrArg (V m c main_call0_v7) (funext fun a => Fin.ext ?_)
  exact win0_11.rect_emb_val_of_index_zero t a (by match a with | ⟨0, _⟩ => rfl | ⟨1, _⟩ => rfl) _

/-- Window 12's block is its whole array. -/
theorem iblk_12 (c : Dev nD) (t : Fin cfg0.N) (i : Fin 1) (k : Fin 1) : iblk m c 12 t (ix2 i k) = V m c main_call0_v8 (ix2 i k) := by
  show V m c main_call0_v8 ((win0_12.rect t).emb (ix2 i k)) = _
  refine congrArg (V m c main_call0_v8) (funext fun a => Fin.ext ?_)
  exact win0_12.rect_emb_val_of_index_zero t a (by match a with | ⟨0, _⟩ => rfl | ⟨1, _⟩ => rfl) _

end Entry

/-- The blocks at a point hold what the values of a block need of the arguments. -/
theorem inputs (m : (ℓ : Loc nD τ sig) → Buf (Elt Ideal) ℓ) (c : Dev nD) (t : Fin cfg0.N) :
    Head.Inputs (rowAt t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
      (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) where
  rows r k := iblk_0 m c t r k
  w1 i k := by rw [iblk_1, V_main_arg1]
  b1 k := by rw [iblk_2, entry_2]; pointwise
  w2 i k := by rw [iblk_3, V_main_arg3]
  b2 k := by rw [iblk_4, entry_3]; pointwise
  k1a i k := by rw [iblk_5, entry_0]; pointwise
  k1b i k := by rw [iblk_6, entry_1]; pointwise
  kb1 k := by rw [iblk_7, entry_4]; pointwise
  kw2 i k := by rw [iblk_8, V_main_arg7]
  kb2 k := by rw [iblk_9, entry_5]; pointwise
  kw3 i := by rw [iblk_10, entry_6]; pointwise
  kb3 := by rw [iblk_11, entry_7]; pointwise
  ks := by rw [iblk_12, entry_8]; pointwise

end Cert.Blocks

end
-- ==== Proof.PreTerms.lean ====
/-
  The precondition in the reference's named pieces, and what it says of one row.
-/
module

public import proofs.«01_k».proof.Proof.RefTerms
public import proofs.«01_k».proof.Proof.PreFacts
public import proofs.«01_k».proof.Proof.Consts
public import proofs.«01_k».proof.Proof.Cut

@[expose] public section

set_option maxRecDepth 16384

noncomputable section

namespace Cert.PreTerms

open Idealize.ShloMosaic Idealize.ShloMosaic.TcCoe Cert.Pre_cut_has_a_float32 Cert.TopK Cert.RefTerms
open Cert.Pre_cut_has_a_float32.Facts

/-- Which entries the mask keeps. -/
def keptBits (kh : FVec Ideal S4096x4096 .f32) : IVec S4096x4096 1 :=
  cmpf .ogt kh (broadcastInDim S4096x4096 ![] bcast_S_S4096x4096 (constant S_ .f32 0x3F000000#32))

/-- Each row's least kept logit. -/
def leastKept (lg kh : FVec Ideal S4096x4096 .f32) : FVec Ideal S4096x1 .f32 :=
  broadcastInDim S4096x1 ![0] bcast_S4096_S4096x1_0 (Host.reduce FloatOps.minimumf (select (keptBits kh) lg (broadcastInDim S4096x4096 ![] bcast_S_S4096x4096 (constant (F := Ideal) S_ .f32 0x7F800000#32))) (constant (F := Ideal) S_ .f32 0x7F800000#32) reducesTo_S4096x4096_S4096_d1 h_S_)

/-- Each row's greatest dropped logit. -/
def mostDropped (lg kh : FVec Ideal S4096x4096 .f32) : FVec Ideal S4096x1 .f32 :=
  broadcastInDim S4096x1 ![0] bcast_S4096_S4096x1_0 (Host.reduce FloatOps.maximumf (select (keptBits kh) (broadcastInDim S4096x4096 ![] bcast_S_S4096x4096 (constant (F := Ideal) S_ .f32 0xFF800000#32)) lg) (constant (F := Ideal) S_ .f32 0xFF800000#32) reducesTo_S4096x4096_S4096_d1 h_S_)

/-- The rows' bits, from the two columns. -/
def sepBits (a b : FVec Ideal S4096x1 .f32) : IVec S4096 1 :=
  fn_part4 (F := Ideal) a b (iotaInDim S254 32 0) (cmpi .slt (iotaInDim S254 32 0) (broadcastInDim S254 ![] bcast_S_S254 (constantI S_ 32 23#32))) (constantI S_ 32 1#32)

/-- The precondition in these pieces. -/
theorem fn_eq (a0 : FVec Ideal S4096x1024 .f32) (a1 : FVec Ideal S1024x512 .f32) (a2 : FVec Ideal S512 .f32)
    (a3 : FVec Ideal S512x4096 .f32) (a4 : FVec Ideal S4096 .f32) (a5 : FVec Ideal S5120x512 .f32) (a6 : FVec Ideal S512 .f32)
    (a7 : FVec Ideal S512x512 .f32) (a8 : FVec Ideal S512 .f32)
    (a9 : FVec Ideal S512x1 .f32) (a10 a11 : FVec Ideal S1 .f32) :
    fn (F := Ideal) a0 a1 a2 a3 a4 a5 a6 a7 a8 a9 a10 a11
      = sepBits (leastKept (logits a0 a1 a2 a3 a4) (khot (logits a0 a1 a2 a3 a4) (clip (kRaw (hidden a0 (logits a0 a1 a2 a3 a4) a5 a6) a7 a8 a9 a10 a11))))
          (mostDropped (logits a0 a1 a2 a3 a4) (khot (logits a0 a1 a2 a3 a4) (clip (kRaw (hidden a0 (logits a0 a1 a2 a3 a4) a5 a6) a7 a8 a9 a10 a11)))) := by
  rfl

/-- A kept entry's mask value is above one half, a dropped one's is not. -/
theorem half_lt_mask (p : Prop) [Decidable p] :
    Ideal.ofBits FTy.f32 1056964608#32 < (if p then (1 : EReal) else 0) ↔ p := by
  rw [Consts.half]
  by_cases h : p
  · rw [if_pos h]
    refine iff_of_true ?_ h
    rw [← EReal.coe_one, EReal.coe_lt_coe_iff]; norm_num
  · rw [if_neg h]
    refine iff_of_false ?_ h
    rw [← EReal.coe_zero, EReal.coe_lt_coe_iff]; norm_num

/-- The least kept logit of a row is its cut. -/
theorem leastKept_apply (lg kh : FVec Ideal S4096x4096 .f32) (r : Fin 4096) (K : ℕ) (a : EReal)
    (hkh : ∀ j, kh (ix2 r j) = if rank (fun i => (lg (ix2 r i) : EReal)) j < K then (1 : EReal) else 0)
    (hcut : IsCut (fun i => (lg (ix2 r i) : EReal)) K a) : leastKept lg kh (ix2 r 0) = a := by
  pointwise [leastKept, keptBits]
  simp only [hkh, half_lt_mask, Consts.posInf]
  apply le_antisymm
  · obtain ⟨j, hj, hja⟩ := hcut.mem
    refine (Finset.fold_min_le a).mpr (Or.inr ⟨j, Finset.mem_univ _, ?_⟩)
    rw [if_pos hj]; exact hja.le
  · refine (Finset.le_fold_min a).mpr ⟨le_top, fun j _ => ?_⟩
    by_cases hj : rank (fun i => (lg (ix2 r i) : EReal)) j < K
    · rw [if_pos hj]; exact hcut.le j hj
    · rw [if_neg hj]; exact le_top

/-- Every dropped logit of a row is at most the greatest dropped one. -/
theorem le_mostDropped (lg kh : FVec Ideal S4096x4096 .f32) (r : Fin 4096) (K : ℕ)
    (hkh : ∀ j, kh (ix2 r j) = if rank (fun i => (lg (ix2 r i) : EReal)) j < K then (1 : EReal) else 0)
    (j : Fin 4096) (hj : ¬rank (fun i => (lg (ix2 r i) : EReal)) j < K) :
    (lg (ix2 r j) : EReal) ≤ mostDropped lg kh (ix2 r 0) := by
  pointwise [mostDropped, keptBits]
  simp only [hkh, half_lt_mask]
  refine (Finset.le_fold_max _).mpr (Or.inr ⟨j, Finset.mem_univ _, ?_⟩)
  rw [if_neg hj]

/-- A disjunction of bits over a range holds as soon as one does, and only then. -/
theorem fold_ori {n : ℕ} (f : Fin n → BitVec 1) (s : Finset (Fin n)) :
    s.fold IntOp.ori (0#1) f = 1#1 → ∃ x, f x = 1#1 := by
  induction s using Finset.induction_on with
  | empty =>
    intro h
    rw [Finset.fold_empty] at h
    exact absurd (congrArg BitVec.toNat h) Nat.zero_ne_one
  | insert x s hx ih =>
    intro h
    rw [Finset.fold_insert hx, Counts.ori_eq_one] at h
    rcases h with h | h
    · exact ⟨x, h⟩
    · exact ih h

/-- The words of the units that are tried. -/
theorem unit_word (x : Fin 254) :
    Scalar.select (IntOp.cmpi CmpIPredicate.slt (BitVec.ofNat 32 x.val) 23#32)
        (IntOp.shli ArithUnit.host (1#32) (BitVec.ofNat 32 x.val))
        (IntOp.muli (IntOp.subi (BitVec.ofNat 32 x.val) 22#32) 8388608#32)
      = BitVec.ofNat 32 (if x.val < 23 then 2 ^ x.val else (x.val - 22) * 8388608) := by
  revert x
  decide

/-- The unit of place `i`, a power of two. -/
def unitAt (i : ℕ) : ℝ := (2 : ℝ) ^ i * (2 : ℝ) ^ (-149 : ℤ)

/-- A row whose bit is set: its number is infinite, or one of the units rounds it down to a float32 number beyond the
    other column's, or onto itself. -/
theorem sepBits_apply (a b : FVec Ideal S4096x1 .f32) (r : Fin 4096) (h : sepBits a b (ix1 r) = 1#1) :
    max (a (ix2 r 0)) (-a (ix2 r 0) : EReal) = ⊤ ∨
      ∃ i : Fin 254, ∃ q : EReal, q = Ideal.liftRound Int.floor (Ideal.div (a (ix2 r 0)) ((unitAt i : ℝ) : EReal))
        ∧ max q (-q) < ((16777216 : ℝ) : EReal)
        ∧ ((b (ix2 r 0) : EReal) < q * ((unitAt i : ℝ) : EReal) ∨ q * ((unitAt i : ℝ) : EReal) = a (ix2 r 0)) := by
  revert h
  pointwise [sepBits, fn_part4, fn_part5, fn_where_2]
  intro h
  obtain ⟨x, hx⟩ := fold_ori _ _ h
  have hu : Ideal.ofBits FTy.f32 (BitVec.ofNat 32 (if x.val < 23 then 2 ^ x.val else (x.val - 22) * 8388608))
      = ((unitAt x : ℝ) : EReal) := Float32Keys.ofBits_unit x.val (by have := x.isLt; omega)
  simp only [unit_word, hu, Consts.posInf, Consts.significands, Counts.ori_eq_one, Counts.andi_eq_one, Counts.ofBool_decide] at hx
  rcases hx with ⟨h1, h2⟩ | h3
  · exact Or.inr ⟨x, _, rfl, h1, h2⟩
  · exact Or.inl h3

/-- So such a row's cut is separated by a float32 number. -/
theorem separated_of_bit (L : Fin 4096 → EReal) (K : ℕ) (a b : EReal) (hb : ∀ j, ¬rank L j < K → L j ≤ b)
    (h : max a (-a) = ⊤ ∨ ∃ i : Fin 254, ∃ q : EReal, q = Ideal.liftRound Int.floor (Ideal.div a ((unitAt i : ℝ) : EReal))
        ∧ max q (-q) < ((16777216 : ℝ) : EReal)
        ∧ (b < q * ((unitAt i : ℝ) : EReal) ∨ q * ((unitAt i : ℝ) : EReal) = a)) : Cut.Separated L K a := by
  rcases h with h | ⟨i, q, hq, hlt, hsep⟩
  · have : a = ⊤ ∨ a = ⊥ := by
      induction a with
      | bot => exact Or.inr rfl
      | top => exact Or.inl rfl
      | coe x =>
        exfalso
        rcases max_choice (x : EReal) (-(x : EReal)) with hm | hm <;> rw [hm] at h
        · exact EReal.coe_ne_top x h
        · rw [← EReal.coe_neg] at h; exact EReal.coe_ne_top _ h
    rcases this with rfl | rfl
    · exact ⟨2139095040, by norm_num, by norm_num, Float32Keys.keyVal_top.le, Or.inl Float32Keys.keyVal_top⟩
    · exact ⟨-2139095040, by norm_num, by norm_num, Float32Keys.keyVal_bot.le, Or.inl Float32Keys.keyVal_bot⟩
  · have hu : 0 < unitAt i := by unfold unitAt; positivity
    have hu0 : ((unitAt i : ℝ) : EReal) ≠ 0 := by
      rw [← EReal.coe_zero]; exact fun h => hu.ne' (EReal.coe_eq_coe_iff.mp h)
    have hdiv : Ideal.div a ((unitAt i : ℝ) : EReal) = a * ((unitAt i)⁻¹ : ℝ) := by
      unfold Ideal.div; rw [if_neg hu0, EReal.coe_inv]
    rw [hdiv] at hq
    have hinv : 0 < (unitAt i)⁻¹ := inv_pos.mpr hu
    induction a with
    | bot =>
      exfalso
      rw [EReal.bot_mul_coe_of_pos hinv, Ideal.liftRound_bot] at hq
      rw [hq, EReal.neg_bot, max_eq_right bot_le] at hlt
      exact not_top_lt hlt
    | top =>
      exfalso
      rw [EReal.top_mul_coe_of_pos hinv, Ideal.liftRound_top] at hq
      rw [hq, max_eq_left le_top] at hlt
      exact not_top_lt hlt
    | coe x =>
      rw [← EReal.coe_mul, Ideal.liftRound_coe] at hq
      set n : ℤ := ⌊x * (unitAt i)⁻¹⌋ with hn
      rw [hq, max_lt_iff, ← EReal.coe_neg, EReal.coe_lt_coe_iff, EReal.coe_lt_coe_iff] at hlt
      have hn24 : |n| < 16777216 := by
        rw [abs_lt]
        have h1 : (n : ℝ) < (16777216 : ℤ) := by exact_mod_cast hlt.1
        have h2 : ((-16777216 : ℤ) : ℝ) < (n : ℝ) := by push_cast; linarith [hlt.2]
        have h1' := Int.cast_lt.mp h1
        have h2' := Int.cast_lt.mp h2
        omega
      obtain ⟨z, hl, hh, hz⟩ := Float32Keys.exists_key i.val (by have := i.isLt; omega) n hn24
      have hzf : Float32Keys.keyVal z = q * ((unitAt i : ℝ) : EReal) := by
        rw [hz, hq, ← EReal.coe_mul]; unfold unitAt; rw [mul_assoc]
      refine ⟨z, hl, hh, ?_, ?_⟩
      · rw [hzf, hq, ← EReal.coe_mul, EReal.coe_le_coe_iff]
        have := Int.floor_le (x * (unitAt i)⁻¹)
        calc (n : ℝ) * unitAt i ≤ (x * (unitAt i)⁻¹) * unitAt i := mul_le_mul_of_nonneg_right this hu.le
          _ = x := by field_simp
      · rw [hzf]
        rcases hsep with hs | hs
        · exact Or.inr fun j hj => (hb j hj).trans_lt hs
        · exact Or.inl hs

end Cert.PreTerms

end
-- ==== Proof.BlockRow.lean ====
/-
  One block's k-hot rows are the reference's, at every row where the precondition's bit is set.
-/
module

public import proofs.«01_k».proof.Proof.Head
public import proofs.«01_k».proof.Proof.PreTerms
public import proofs.«01_k».proof.Proof.KernelIdealBody

@[expose] public section

set_option maxRecDepth 16384

noncomputable section

namespace Cert.BlockRow

open Idealize.ShloMosaic Cert.KernelIdeal Cert.KernelIdeal.Gen
open Cert.TopK Cert.KernelIdealProof

/-- The reference's `k` column of the arguments. -/
abbrev refK (a0 : FVec Ideal ReferenceIdeal.S4096x1024 .f32) (a1 : FVec Ideal ReferenceIdeal.S1024x512 .f32)
    (a2 : FVec Ideal ReferenceIdeal.S512 .f32) (a3 : FVec Ideal ReferenceIdeal.S512x4096 .f32)
    (a4 : FVec Ideal ReferenceIdeal.S4096 .f32) (a5 : FVec Ideal ReferenceIdeal.S5120x512 .f32)
    (a6 : FVec Ideal ReferenceIdeal.S512 .f32) (a7 : FVec Ideal ReferenceIdeal.S512x512 .f32)
    (a8 : FVec Ideal ReferenceIdeal.S512 .f32) (a9 : FVec Ideal ReferenceIdeal.S512x1 .f32)
    (a10 a11 : FVec Ideal ReferenceIdeal.S1 .f32) : FVec Ideal ReferenceIdeal.S4096x1 .f32 :=
  RefTerms.clip (RefTerms.kRaw (RefTerms.hidden a0 (RefTerms.logits a0 a1 a2 a3 a4) a5 a6) a7 a8 a9 a10 a11)

/-- The reference's k-hot rows of the arguments. -/
abbrev refKhot (a0 : FVec Ideal ReferenceIdeal.S4096x1024 .f32) (a1 : FVec Ideal ReferenceIdeal.S1024x512 .f32)
    (a2 : FVec Ideal ReferenceIdeal.S512 .f32) (a3 : FVec Ideal ReferenceIdeal.S512x4096 .f32)
    (a4 : FVec Ideal ReferenceIdeal.S4096 .f32) (a5 : FVec Ideal ReferenceIdeal.S5120x512 .f32)
    (a6 : FVec Ideal ReferenceIdeal.S512 .f32) (a7 : FVec Ideal ReferenceIdeal.S512x512 .f32)
    (a8 : FVec Ideal ReferenceIdeal.S512 .f32) (a9 : FVec Ideal ReferenceIdeal.S512x1 .f32)
    (a10 a11 : FVec Ideal ReferenceIdeal.S1 .f32) : FVec Ideal ReferenceIdeal.S4096x4096 .f32 :=
  RefTerms.khot (RefTerms.logits a0 a1 a2 a3 a4) (refK a0 a1 a2 a3 a4 a5 a6 a7 a8 a9 a10 a11)

section Block

variable {R : Fin 256 → Fin 4096}
    {x0 : FVec Ideal S256x1024 .f32} {x1 : FVec Ideal S1024x512 .f32} {x2 : FVec Ideal S1x512 .f32}
    {x3 : FVec Ideal S512x4096 .f32} {x4 : FVec Ideal S1x4096 .f32} {x5 : FVec Ideal S1024x512 .f32}
    {x6 : FVec Ideal S4096x512 .f32} {x7 : FVec Ideal S1x512 .f32} {x8 : FVec Ideal S512x512 .f32}
    {x9 : FVec Ideal S1x512 .f32} {x10 : FVec Ideal S1x512 .f32} {x11 x12 : FVec Ideal S1x1 .f32}
    {a0 : FVec Ideal ReferenceIdeal.S4096x1024 .f32} {a1 : FVec Ideal ReferenceIdeal.S1024x512 .f32}
    {a2 : FVec Ideal ReferenceIdeal.S512 .f32} {a3 : FVec Ideal ReferenceIdeal.S512x4096 .f32}
    {a4 : FVec Ideal ReferenceIdeal.S4096 .f32} {a5 : FVec Ideal ReferenceIdeal.S5120x512 .f32}
    {a6 : FVec Ideal ReferenceIdeal.S512 .f32} {a7 : FVec Ideal ReferenceIdeal.S512x512 .f32}
    {a8 : FVec Ideal ReferenceIdeal.S512 .f32} {a9 : FVec Ideal ReferenceIdeal.S512x1 .f32}
    {a10 a11 : FVec Ideal ReferenceIdeal.S1 .f32}
    (h : Head.Inputs R x0 x1 x2 x3 x4 x5 x6 x7 x8 x9 x10 x11 x12 a0 a1 a2 a3 a4 a5 a6 a7 a8 a9 a10 a11)

include h

/-- A block's `k` column. -/
theorem kBlk_apply (r : Fin 256) :
    kBlk (F := Ideal) x0 x1 x2 x3 x4 x5 x6 x7 x8 x9 x10 x11 x12 (ix2 r 0) = refK a0 a1 a2 a3 a4 a5 a6 a7 a8 a9 a10 a11 (ix2 (R r) 0) :=
  Head.k_eq h r

/-- A block's k-hot row, where the precondition holds of it. -/
theorem khotBlk_apply (r : Fin 256)
    (hbit : Cert.Pre_cut_has_a_float32.fn (F := Ideal) a0 a1 a2 a3 a4 a5 a6 a7 a8 a9 a10 a11 (ix1 (R r)) = 1#1) (j : Fin 4096) :
    khotBlk (F := Ideal) x0 x1 x2 x3 x4 x5 x6 x7 x8 x9 x10 x11 x12 (ix2 r j)
      = refKhot a0 a1 a2 a3 a4 a5 a6 a7 a8 a9 a10 a11 (ix2 (R r) j) := by
  rw [PreTerms.fn_eq] at hbit
  set lg := RefTerms.logits a0 a1 a2 a3 a4 with hlg
  set raw := RefTerms.kRaw (RefTerms.hidden a0 lg a5 a6) a7 a8 a9 a10 a11 with hraw
  obtain ⟨K, hK1, hK, hceil, hlt⟩ := Head.ceil_clip (RefTerms.clip raw (ix2 (R r) 0))
    ((Head.clip_clip raw (R r)).symm.trans (Head.clip_apply (RefTerms.clip raw) (R r)))
  have hkh : ∀ j, RefTerms.khot lg (RefTerms.clip raw) (ix2 (R r) j)
      = if rank (fun i => (lg (ix2 (R r) i) : EReal)) j < K then (1 : EReal) else 0 := by
    intro j
    rw [RefTerms.khot_apply, Head.clip_clip]
    simp only [hlt]
  obtain ⟨a, hcut⟩ := exists_cut (fun i => (lg (ix2 (R r) i) : EReal)) K hK1 hK
  have hbits := PreTerms.sepBits_apply _ _ (R r) hbit
  rw [PreTerms.leastKept_apply lg _ (R r) K a hkh hcut] at hbits
  have hsep := PreTerms.separated_of_bit (fun i => (lg (ix2 (R r) i) : EReal)) K a _
    (fun j hj => PreTerms.le_mostDropped lg _ (R r) K hkh j hj) hbits
  have hrow : Cut.rowOf (k0_pay13 x0 x1 x2 x3 x4) r = fun i => (lg (ix2 (R r) i) : EReal) :=
    funext fun i => Head.logits_eq h r i
  have hk : k0_pay17 (F := Ideal) (k0_pay14 x0 x1 x2 x3 x4 x5 x6 x7 x8) (k0_pay15 x9) x10 x11 x12 (ix2 r 0) = ((K : ℕ) : EReal) := by
    rw [Head.count_apply, Head.k_eq h r]
    exact hceil
  show khotOf (F := Ideal) (k0_pay13 x0 x1 x2 x3 x4) (k0_pay14 x0 x1 x2 x3 x4 x5 x6 x7 x8) (k0_pay15 x9) x10 x11 x12 (ix2 r j)
    = RefTerms.khot lg (RefTerms.clip raw) (ix2 (R r) j)
  rw [hkh j]
  rw [Cut.khotOf_apply _ _ _ _ _ _ r K hK hk a (hrow.symm ▸ hcut) (hrow.symm ▸ hsep) j, hrow]

end Block

end Cert.BlockRow

end
-- ==== Proof.Arrays.lean ====
/-
  The two result arrays after the run: the reference's k-hot rows, where the precondition holds, and the reference's `k`.
-/
module

public import proofs.«01_k».proof.Proof.Blocks
public import proofs.«01_k».proof.Proof.BlockRow

@[expose] public section

set_option maxRecDepth 16384

noncomputable section

namespace Cert.Arrays

open Idealize.ShloMosaic Idealize.ShloMosaic.TcCoe Cert.KernelIdeal Cert.KernelIdeal.Gen Cert.KernelIdealProof
open Idealize.ShloMosaic.Pipeline (Dat)
open Cert.Blocks (rowAt)

/-- An index of a two-dimensional array is its two coordinates. -/
theorem idx_eq {p q : ℕ} (y : (⟨2, ![p, q]⟩ : Shape).Idx) : y = ix2 (y 0) (y 1) :=
  funext fun a => match a with | ⟨0, _⟩ => rfl | ⟨1, _⟩ => rfl

variable (m : (ℓ : Loc nD τ sig) → Buf (Elt Ideal) ℓ)

/-- The reference's k-hot rows of a device's arguments. -/
def khotArr (c : Dev nD) : FVec Ideal S4096x4096 .f32 :=
  BlockRow.refKhot (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- The reference's `k` of a device's arguments. -/
def kArr (c : Dev nD) : FVec Ideal S4096x1 .f32 :=
  BlockRow.refK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-! ## The k-hot array -/

/-- Where the k-hot block sits at a point, and its size. -/
theorem index_13 (t : Fin cfg0.N) : win0_13.index t 0 * win0_13.size 0 = 256 * t.val ∧ win0_13.index t 1 = 0
    ∧ win0_13.xsize (grid0.coords t) 0 = 256 ∧ win0_13.xsize (grid0.coords t) 1 = 4096 := by
  rcases fin_N0 t with rfl | rfl | rfl | rfl | rfl | rfl | rfl | rfl | rfl | rfl | rfl | rfl | rfl | rfl | rfl | rfl <;> decide +kernel

/-- An index of a point's k-hot block, in the array. -/
theorem emb_13 (t : Fin cfg0.N) (r : Fin 256) (j : Fin 4096) :
    ((win0_13.rect t).emb (ix2 r j) : S4096x4096.Idx) = ix2 (rowAt t r) j := by
  refine funext fun a => Fin.ext ?_
  match a with
  | ⟨0, _⟩ => rw [win0_13.rect_emb_val t _ _ rfl]; exact congrArg (· + r.val) (index_13 t).1
  | ⟨1, _⟩ => exact win0_13.rect_emb_val_of_index_zero t 1 (index_13 t).2.1 _

/-- One entry of what a point leaves in the k-hot block. -/
theorem entry_13 (c : Dev nD) (hpre : Cert.Pre_cut_has_a_float32.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) = fun _ => 1#1)
    (t : Fin cfg0.N) (r : Fin 256) (j : Fin 4096) :
    khotBlk (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j) = khotArr m c (ix2 (rowAt t r) j) := by
  exact BlockRow.khotBlk_apply (Blocks.inputs m c t) r (congrFun hpre _) j

/-- A block is written back whole, -/
theorem cut_13 (t : Fin cfg0.N) (X : FVec Ideal S256x4096 .f32) (r : Fin 256) (j : Fin 4096) :
    (cfg0.win 13).cut (α := Elt Ideal .f32) (grid0.coords t) X (ix2 r j) = X (ix2 r j) := rfl

/-- and what is read of an array through it is the array's entries there. -/
theorem read_13 (t : Fin cfg0.N) (X : FVec Ideal S4096x4096 .f32) (r : Fin 256) (j : Fin 4096) :
    (win0_13.blk t).view.read (Elt Ideal) X (ix2 r j) = X (ix2 (rowAt t r) j) :=
  congrArg X (emb_13 t r j)

/-- What a point writes back is its block of the reference's k-hot array. -/
theorem flushed_13 (c : Dev nD) (hpre : Cert.Pre_cut_has_a_float32.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) = fun _ => 1#1)
    (t : Fin cfg0.N) : (dats m 0 c).flushed 13 t = (win0_13.blk t).view.read (Elt Ideal) (khotArr m c) := by
  show (cfg0.win 13).cut (grid0.coords t) ((dats m 0 c).after 13 t) = _
  rw [after0_13]
  refine funext fun (y : (⟨2, ![256, 4096]⟩ : Shape).Idx) => ?_
  rw [idx_eq y]
  exact (cut_13 t _ (y 0) (y 1)).trans ((entry_13 m c hpre t (y 0) (y 1)).trans (read_13 t _ (y 0) (y 1)).symm)

/-- Which indices are in a point's k-hot block. -/
theorem mem_13 (t : Fin cfg0.N) (i : S4096x4096.Idx) :
    i ∈ ((cfg0.win 13).blk t).view.set ↔ 256 * t.val ≤ (i 0 : Nat) ∧ (i 0 : Nat) < 256 * t.val + 256 := by
  show i ∈ ((View.whole main_v0_0).slice (win0_13.rect t)).set ↔ _
  rw [View.set_slice_whole, Rect.mem_set_unit]
  obtain ⟨e0, e1, e2, e3⟩ := index_13 t
  have h1 : (i 1 : Nat) < 4096 := (i 1).isLt
  refine ⟨fun h => ?_, fun h a => ?_⟩
  · have h0 : win0_13.index t 0 * win0_13.size 0 ≤ (i 0 : Nat)
        ∧ (i 0 : Nat) < win0_13.index t 0 * win0_13.size 0 + win0_13.xsize (grid0.coords t) 0 := h 0
    rwa [e0, e2] at h0
  · match a with
    | ⟨0, _⟩ =>
      show win0_13.index t 0 * win0_13.size 0 ≤ (i 0 : Nat)
        ∧ (i 0 : Nat) < win0_13.index t 0 * win0_13.size 0 + win0_13.xsize (grid0.coords t) 0
      rw [e0, e2]; exact h
    | ⟨1, _⟩ =>
      show win0_13.index t 1 * win0_13.size 1 ≤ (i 1 : Nat)
        ∧ (i 1 : Nat) < win0_13.index t 1 * win0_13.size 1 + win0_13.xsize (grid0.coords t) 1
      rw [e1, e3, Nat.zero_mul]; omega

/-- Every index of the k-hot array is in some point's block. -/
theorem cover_13 (i : S4096x4096.Idx) :
    ∃ t : Fin cfg0.N, (cfg0.win 13).flush t = true ∧ i ∈ ((cfg0.win 13).blk t).view.set := by
  have h0 : (i 0 : Nat) < 4096 := (i 0).isLt
  have hN : cfg0.N = 16 := N_0
  refine ⟨⟨(i 0 : Nat) / 256, by omega⟩, flush0_13 _, ?_⟩
  rw [mem_13]
  dsimp only
  omega

/-- The k-hot array after the run. -/
theorem final_13 (c : Dev nD) (hpre : Cert.Pre_cut_has_a_float32.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) = fun _ => 1#1) :
    (dats m 0 c).arrAt 13 cfg0.N = khotArr m c :=
  (dats m 0 c).arrAt_eq_of_cover 13 (khotArr m c) (fun t _ => flushed_13 m c hpre t) cover_13

/-! ## The `k` array -/

/-- Where the `k` block sits at a point, and its size. -/
theorem index_14 (t : Fin cfg0.N) : win0_14.index t 0 * win0_14.size 0 = 256 * t.val ∧ win0_14.index t 1 = 0
    ∧ win0_14.xsize (grid0.coords t) 0 = 256 ∧ win0_14.xsize (grid0.coords t) 1 = 1 := by
  rcases fin_N0 t with rfl | rfl | rfl | rfl | rfl | rfl | rfl | rfl | rfl | rfl | rfl | rfl | rfl | rfl | rfl | rfl <;> decide +kernel

/-- An index of a point's `k` block, in the array. -/
theorem emb_14 (t : Fin cfg0.N) (r : Fin 256) (j : Fin 1) :
    ((win0_14.rect t).emb (ix2 r j) : S4096x1.Idx) = ix2 (rowAt t r) j := by
  refine funext fun a => Fin.ext ?_
  match a with
  | ⟨0, _⟩ => rw [win0_14.rect_emb_val t _ _ rfl]; exact congrArg (· + r.val) (index_14 t).1
  | ⟨1, _⟩ => exact win0_14.rect_emb_val_of_index_zero t 1 (index_14 t).2.1 _

/-- One entry of what a point leaves in the `k` block. -/
theorem entry_14 (c : Dev nD)
    (t : Fin cfg0.N) (r : Fin 256) (j : Fin 1) :
    kBlk (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j) = kArr m c (ix2 (rowAt t r) j) := by
  obtain rfl : j = 0 := Subsingleton.elim _ _
  exact BlockRow.kBlk_apply (Blocks.inputs m c t) r

/-- A block is written back whole, -/
theorem cut_14 (t : Fin cfg0.N) (X : FVec Ideal S256x1 .f32) (r : Fin 256) (j : Fin 1) :
    (cfg0.win 14).cut (α := Elt Ideal .f32) (grid0.coords t) X (ix2 r j) = X (ix2 r j) := rfl

/-- and what is read of an array through it is the array's entries there. -/
theorem read_14 (t : Fin cfg0.N) (X : FVec Ideal S4096x1 .f32) (r : Fin 256) (j : Fin 1) :
    (win0_14.blk t).view.read (Elt Ideal) X (ix2 r j) = X (ix2 (rowAt t r) j) :=
  congrArg X (emb_14 t r j)

/-- What a point writes back is its block of the reference's `k` array. -/
theorem flushed_14 (c : Dev nD)
    (t : Fin cfg0.N) : (dats m 0 c).flushed 14 t = (win0_14.blk t).view.read (Elt Ideal) (kArr m c) := by
  show (cfg0.win 14).cut (grid0.coords t) ((dats m 0 c).after 14 t) = _
  rw [after0_14]
  refine funext fun (y : (⟨2, ![256, 1]⟩ : Shape).Idx) => ?_
  rw [idx_eq y]
  exact (cut_14 t _ (y 0) (y 1)).trans ((entry_14 m c t (y 0) (y 1)).trans (read_14 t _ (y 0) (y 1)).symm)

/-- Which indices are in a point's `k` block. -/
theorem mem_14 (t : Fin cfg0.N) (i : S4096x1.Idx) :
    i ∈ ((cfg0.win 14).blk t).view.set ↔ 256 * t.val ≤ (i 0 : Nat) ∧ (i 0 : Nat) < 256 * t.val + 256 := by
  show i ∈ ((View.whole main_v0_1).slice (win0_14.rect t)).set ↔ _
  rw [View.set_slice_whole, Rect.mem_set_unit]
  obtain ⟨e0, e1, e2, e3⟩ := index_14 t
  have h1 : (i 1 : Nat) < 1 := (i 1).isLt
  refine ⟨fun h => ?_, fun h a => ?_⟩
  · have h0 : win0_14.index t 0 * win0_14.size 0 ≤ (i 0 : Nat)
        ∧ (i 0 : Nat) < win0_14.index t 0 * win0_14.size 0 + win0_14.xsize (grid0.coords t) 0 := h 0
    rwa [e0, e2] at h0
  · match a with
    | ⟨0, _⟩ =>
      show win0_14.index t 0 * win0_14.size 0 ≤ (i 0 : Nat)
        ∧ (i 0 : Nat) < win0_14.index t 0 * win0_14.size 0 + win0_14.xsize (grid0.coords t) 0
      rw [e0, e2]; exact h
    | ⟨1, _⟩ =>
      show win0_14.index t 1 * win0_14.size 1 ≤ (i 1 : Nat)
        ∧ (i 1 : Nat) < win0_14.index t 1 * win0_14.size 1 + win0_14.xsize (grid0.coords t) 1
      rw [e1, e3, Nat.zero_mul]; omega

/-- Every index of the `k` array is in some point's block. -/
theorem cover_14 (i : S4096x1.Idx) :
    ∃ t : Fin cfg0.N, (cfg0.win 14).flush t = true ∧ i ∈ ((cfg0.win 14).blk t).view.set := by
  have h0 : (i 0 : Nat) < 4096 := (i 0).isLt
  have hN : cfg0.N = 16 := N_0
  refine ⟨⟨(i 0 : Nat) / 256, by omega⟩, flush0_14 _, ?_⟩
  rw [mem_14]
  dsimp only
  omega

/-- The `k` array after the run. -/
theorem final_14 (c : Dev nD) :
    (dats m 0 c).arrAt 14 cfg0.N = kArr m c :=
  (dats m 0 c).arrAt_eq_of_cover 14 (kArr m c) (fun t _ => flushed_14 m c t) cover_14

end Cert.Arrays

end
-- ==== Proof.lean ====
/-
  The claims assembled: the four frames, the trivial preservation, and the agreement of both results with the
  reference's under the precondition.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.PreFacts
public import proofs.«01_k».proof.Proof.KernelRun
public import proofs.«01_k».proof.Proof.KernelIdealRun
public import proofs.«01_k».proof.Proof.Arrays
public import proofs.«01_k».proof.Proof.RefTerms
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

/-- The kernel's run leaves its arguments as they were and every semaphore counter at zero. -/
theorem frame_kernel : Cert.quiescent_Kernel := fun m ρ _ =>
  (θ_run Cert.Kernel.defs _ _).mono (fun _ h => ⟨h.1, h.2.2⟩)
    (θ_run_and (Cert.Kernel.Gen.frame_of m ρ (Cert.KernelProof.dats m) (Cert.KernelProof.A_eq m) (Cert.KernelProof.run_main m ρ))
      (Cert.KernelProof.run_quiescent m ρ))

/-- So does the idealized kernel's, -/
theorem frame_ideal : Cert.quiescent_KernelIdeal := fun m ρ _ =>
  (θ_run Cert.KernelIdeal.defs _ _).mono (fun _ h => And.intro h.1 h.2.2)
    (θ_run_and (Cert.KernelIdeal.Gen.frame_of m ρ (Cert.KernelIdealProof.dats m) (Cert.KernelIdealProof.A_eq m) (Cert.KernelIdealProof.run_main m ρ))
      (Cert.KernelIdealProof.run_quiescent m ρ))

/-- and the reference's, which declares no semaphore. -/
theorem frame_reference : Cert.quiescent_ReferenceIdeal := fun m ρ _ =>
  (θ_run Cert.ReferenceIdeal.defs _ _).mono (fun r h => And.intro (fun c => (h c).2.2) (sem_eq_zero_of_no_sems (by decide) r.2))
    (Cert.ReferenceIdeal.Value.run (F := Ideal) m ρ)

/-- From memories agreeing on the arguments and meeting the precondition, both results are equal. -/
theorem algebraic : Cert.algebraic_KernelIdeal_ReferenceIdeal_pre_cut_has_a_float32 := by
  intro m ρ m' ρ' hpre hagree
  refine ⟨Cert.Arrays.khotArr m, Cert.Arrays.kArr m, ?_, ?_⟩
  · exact (θ_run Cert.KernelIdeal.defs _ _).mono
      (fun _ h c => ⟨((h.2 c).1 13).trans (Cert.Arrays.final_13 m c (hpre c)), ((h.2 c).1 14).trans (Cert.Arrays.final_14 m c), h.1 c⟩)
      (θ_run_and (Cert.KernelIdeal.Gen.frame_of m ρ (Cert.KernelIdealProof.dats m) (Cert.KernelIdealProof.A_eq m) (Cert.KernelIdealProof.run_main m ρ))
        (Cert.KernelIdealProof.run_main m ρ))
  · refine (θ_run Cert.ReferenceIdeal.defs _ _).mono
      (fun _ h c => ⟨((h c).1.trans (Cert.RefTerms.res_eq m' c)).trans ?_, (h c).2.1.trans ?_, (h c).2.2⟩)
      (Cert.ReferenceIdeal.Value.run (F := Ideal) m' ρ')
    · obtain ⟨h0, h1, h2, h3, h4, h5, h6, h7, h8, h9, h10, h11⟩ := hagree c
      rw [h0, h1, h2, h3, h4, h5, h6, h7, h8, h9, h10, h11]
      rfl
    · obtain ⟨h0, h1, h2, h3, h4, h5, h6, h7, h8, h9, h10, h11⟩ := hagree c
      rw [h0, h1, h2, h3, h4, h5, h6, h7, h8, h9, h10, h11]
      rfl

/-- Everything claimed. -/
theorem claim : Cert.Claim :=
  ⟨Cert.Kernel.Gen.facts, Cert.KernelIdeal.Gen.facts, Cert.ReferenceIdeal.Gen.facts, Cert.PreFacts.facts,
    frame_kernel, frame_ideal, fun m ρ _ => frame_ideal m ρ trivial,
    frame_reference, fun m ρ _ => frame_reference m ρ trivial, trivial, algebraic⟩

end Cert.Proof

end
